-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x256x2048 : Shape := ⟨3, ![96, 256, 2048]⟩
abbrev S96x2x16 : Shape := ⟨3, ![96, 2, 16]⟩
abbrev S96x32x2048 : Shape := ⟨3, ![96, 32, 2048]⟩
abbrev S96x256x32 : Shape := ⟨3, ![96, 256, 32]⟩
abbrev S2x16x96 : Shape := ⟨3, ![2, 16, 96]⟩
abbrev S96x32x256 : Shape := ⟨3, ![96, 32, 256]⟩
abbrev S96x64x256 : Shape := ⟨3, ![96, 64, 256]⟩
abbrev S1x256x2048 : Shape := ⟨3, ![1, 256, 2048]⟩
abbrev S1x32x2048 : Shape := ⟨3, ![1, 32, 2048]⟩
abbrev S1x32x256 : Shape := ⟨3, ![1, 32, 256]⟩
abbrev S1x64x256 : Shape := ⟨3, ![1, 64, 256]⟩
abbrev S128x512 : Shape := ⟨2, ![128, 512]⟩
abbrev S32x8x128 : Shape := ⟨3, ![32, 8, 128]⟩
abbrev S2x128x128 : Shape := ⟨3, ![2, 128, 128]⟩
abbrev S128x128 : Shape := ⟨2, ![128, 128]⟩
abbrev S32x256 : Shape := ⟨2, ![32, 256]⟩
abbrev S8x128 : Shape := ⟨2, ![8, 128]⟩
abbrev S1x32x128 : Shape := ⟨3, ![1, 32, 128]⟩
abbrev S32x128 : Shape := ⟨2, ![32, 128]⟩
abbrev S256x128 : Shape := ⟨2, ![256, 128]⟩
abbrev S128x256 : Shape := ⟨2, ![128, 256]⟩
abbrev S1x256x128 : Shape := ⟨3, ![1, 256, 128]⟩
abbrev S1x1x1 : Shape := ⟨3, ![1, 1, 1]⟩
abbrev S1x128 : Shape := ⟨2, ![1, 128]⟩
abbrev S256x256 : Shape := ⟨2, ![256, 256]⟩
abbrev S1x8x128 : Shape := ⟨3, ![1, 8, 128]⟩
abbrev S1x128x128 : Shape := ⟨3, ![1, 128, 128]⟩
abbrev S64x128 : Shape := ⟨2, ![64, 128]⟩
abbrev S1x64x128 : Shape := ⟨3, ![1, 64, 128]⟩
abbrev S96x256x64 : Shape := ⟨3, ![96, 256, 64]⟩

abbrev nBuf : Space → Nat
  | .hbm => 9
  | .vmem => 13
  | .smem => 1
  | _ => 0

abbrev bufTy : (tb : Table) → Fin (tcTables nBuf tb) → BufTy
  | .hbm, ⟨0, _⟩ => ⟨S96x256x2048, .fp8e4m3⟩
  | .hbm, ⟨1, _⟩ => ⟨S96x2x16, .f32⟩
  | .hbm, ⟨2, _⟩ => ⟨S96x32x2048, .bf16⟩
  | .hbm, ⟨3, _⟩ => ⟨S96x256x32, .bf16⟩
  | .hbm, ⟨4, _⟩ => ⟨S2x16x96, .f32⟩
  | .hbm, ⟨5, _⟩ => ⟨S96x32x256, .bf16⟩
  | .hbm, ⟨6, _⟩ => ⟨S96x256x2048, .fp8e4m3⟩
  | .hbm, ⟨7, _⟩ => ⟨S96x64x256, .i8⟩
  | .hbm, ⟨8, _⟩ => ⟨S96x256x64, .i8⟩
  | .local _ .vmem, ⟨0, _⟩ => ⟨S1x256x2048, .fp8e4m3⟩
  | .local _ .vmem, ⟨1, _⟩ => ⟨S1x256x2048, .fp8e4m3⟩
  | .local _ .vmem, ⟨2, _⟩ => ⟨S1x32x2048, .bf16⟩
  | .local _ .vmem, ⟨3, _⟩ => ⟨S1x32x2048, .bf16⟩
  | .local _ .vmem, ⟨4, _⟩ => ⟨S1x32x256, .bf16⟩
  | .local _ .vmem, ⟨5, _⟩ => ⟨S1x32x256, .bf16⟩
  | .local _ .vmem, ⟨6, _⟩ => ⟨S1x256x2048, .fp8e4m3⟩
  | .local _ .vmem, ⟨7, _⟩ => ⟨S1x256x2048, .fp8e4m3⟩
  | .local _ .vmem, ⟨8, _⟩ => ⟨S1x64x256, .i8⟩
  | .local _ .vmem, ⟨9, _⟩ => ⟨S1x64x256, .i8⟩
  | .local _ .vmem, ⟨10, _⟩ => ⟨S128x512, .bf16⟩
  | .local _ .vmem, ⟨11, _⟩ => ⟨S32x8x128, .f32⟩
  | .local _ .vmem, ⟨12, _⟩ => ⟨S2x128x128, .i32⟩
  | .local _ .smem, ⟨0, _⟩ => ⟨S2x16x96, .f32⟩
  | _, _ => ⟨S96x256x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![96], ![false]⟩

def k0_off1 (i : grid0.Coords) : Fin 3 → Nat :=
  let c0_46 : Index := 0#32
  let c0_47 : Index := 0#32
  let arg0 : BitVec 32 := BitVec.ofNat 32 (i 0).val
  let v60 : Index := Scalar.indexCast arg0
  ![0, 0, v60.toNat]
def k0_off2 (i : grid0.Coords) : Fin 3 → Nat :=
  let c1 : Index := 1#32
  let c0_48 : Index := 0#32
  let arg0 : BitVec 32 := BitVec.ofNat 32 (i 0).val
  let v67 : Index := Scalar.indexCast arg0
  ![1, 0, v67.toNat]
def k0_off3 (i : grid0.Coords) : Fin 3 → Nat :=
  let c0_258 : Index := 0#32
  let c1_259 : Index := 1#32
  let arg0 : BitVec 32 := BitVec.ofNat 32 (i 0).val
  let v655 : Index := Scalar.indexCast arg0
  ![0, 1, v655.toNat]
def k0_off4 (i : grid0.Coords) : Fin 3 → Nat :=
  let c1_260 : Index := 1#32
  let c1_261 : Index := 1#32
  let arg0 : BitVec 32 := BitVec.ofNat 32 (i 0).val
  let v662 : Index := Scalar.indexCast arg0
  ![1, 1, v662.toNat]
def k0_off5 (i : grid0.Coords) : Fin 3 → Nat :=
  let c0_491 : Index := 0#32
  let c2_492 : Index := 2#32
  let arg0 : BitVec 32 := BitVec.ofNat 32 (i 0).val
  let v1250 : Index := Scalar.indexCast arg0
  ![0, 2, v1250.toNat]
def k0_off6 (i : grid0.Coords) : Fin 3 → Nat :=
  let c1_493 : Index := 1#32
  let c2_494 : Index := 2#32
  let arg0 : BitVec 32 := BitVec.ofNat 32 (i 0).val
  let v1257 : Index := Scalar.indexCast arg0
  ![1, 2, v1257.toNat]
def k0_off7 (i : grid0.Coords) : Fin 3 → Nat :=
  let c0_724 : Index := 0#32
  let c3_725 : Index := 3#32
  let arg0 : BitVec 32 := BitVec.ofNat 32 (i 0).val
  let v1845 : Index := Scalar.indexCast arg0
  ![0, 3, v1845.toNat]
def k0_off8 (i : grid0.Coords) : Fin 3 → Nat :=
  let c1_726 : Index := 1#32
  let c3_727 : Index := 3#32
  let arg0 : BitVec 32 := BitVec.ofNat 32 (i 0).val
  let v1852 : Index := Scalar.indexCast arg0
  ![1, 3, v1852.toNat]
def k0_off9 (i : grid0.Coords) : Fin 3 → Nat :=
  let c0_958 : Index := 0#32
  let c4_959 : Index := 4#32
  let arg0 : BitVec 32 := BitVec.ofNat 32 (i 0).val
  let v2440 : Index := Scalar.indexCast arg0
  ![0, 4, v2440.toNat]
def k0_off10 (i : grid0.Coords) : Fin 3 → Nat :=
  let c1_960 : Index := 1#32
  let c4_961 : Index := 4#32
  let arg0 : BitVec 32 := BitVec.ofNat 32 (i 0).val
  let v2447 : Index := Scalar.indexCast arg0
  ![1, 4, v2447.toNat]
def k0_off11 (i : grid0.Coords) : Fin 3 → Nat :=
  let c0_1191 : Index := 0#32
  let c5_1192 : Index := 5#32
  let arg0 : BitVec 32 := BitVec.ofNat 32 (i 0).val
  let v3035 : Index := Scalar.indexCast arg0
  ![0, 5, v3035.toNat]
def k0_off12 (i : grid0.Coords) : Fin 3 → Nat :=
  let c1_1193 : Index := 1#32
  let c5_1194 : Index := 5#32
  let arg0 : BitVec 32 := BitVec.ofNat 32 (i 0).val
  let v3042 : Index := Scalar.indexCast arg0
  ![1, 5, v3042.toNat]
def k0_off13 (i : grid0.Coords) : Fin 3 → Nat :=
  let c0_1422 : Index := 0#32
  let c6_1423 : Index := 6#32
  let arg0 : BitVec 32 := BitVec.ofNat 32 (i 0).val
  let v3630 : Index := Scalar.indexCast arg0
  ![0, 6, v3630.toNat]
def k0_off14 (i : grid0.Coords) : Fin 3 → Nat :=
  let c1_1424 : Index := 1#32
  let c6_1425 : Index := 6#32
  let arg0 : BitVec 32 := BitVec.ofNat 32 (i 0).val
  let v3637 : Index := Scalar.indexCast arg0
  ![1, 6, v3637.toNat]
def k0_off15 (i : grid0.Coords) : Fin 3 → Nat :=
  let c0_1653 : Index := 0#32
  let c7_1654 : Index := 7#32
  let arg0 : BitVec 32 := BitVec.ofNat 32 (i 0).val
  let v4225 : Index := Scalar.indexCast arg0
  ![0, 7, v4225.toNat]
def k0_off16 (i : grid0.Coords) : Fin 3 → Nat :=
  let c1_1655 : Index := 1#32
  let c7_1656 : Index := 7#32
  let arg0 : BitVec 32 := BitVec.ofNat 32 (i 0).val
  let v4232 : Index := Scalar.indexCast arg0
  ![1, 7, v4232.toNat]
def k0_off17 (i : grid0.Coords) : Fin 3 → Nat :=
  let c0_1884 : Index := 0#32
  let c8_1885 : Index := 8#32
  let arg0 : BitVec 32 := BitVec.ofNat 32 (i 0).val
  let v4820 : Index := Scalar.indexCast arg0
  ![0, 8, v4820.toNat]
def k0_off18 (i : grid0.Coords) : Fin 3 → Nat :=
  let c1_1886 : Index := 1#32
  let c8_1887 : Index := 8#32
  let arg0 : BitVec 32 := BitVec.ofNat 32 (i 0).val
  let v4827 : Index := Scalar.indexCast arg0
  ![1, 8, v4827.toNat]
def k0_off19 (i : grid0.Coords) : Fin 3 → Nat :=
  let c0_2117 : Index := 0#32
  let c9_2118 : Index := 9#32
  let arg0 : BitVec 32 := BitVec.ofNat 32 (i 0).val
  let v5415 : Index := Scalar.indexCast arg0
  ![0, 9, v5415.toNat]
def k0_off20 (i : grid0.Coords) : Fin 3 → Nat :=
  let c1_2119 : Index := 1#32
  let c9_2120 : Index := 9#32
  let arg0 : BitVec 32 := BitVec.ofNat 32 (i 0).val
  let v5422 : Index := Scalar.indexCast arg0
  ![1, 9, v5422.toNat]
def k0_off21 (i : grid0.Coords) : Fin 3 → Nat :=
  let c0_2348 : Index := 0#32
  let c10_2349 : Index := 10#32
  let arg0 : BitVec 32 := BitVec.ofNat 32 (i 0).val
  let v6010 : Index := Scalar.indexCast arg0
  ![0, 10, v6010.toNat]
def k0_off22 (i : grid0.Coords) : Fin 3 → Nat :=
  let c1_2350 : Index := 1#32
  let c10_2351 : Index := 10#32
  let arg0 : BitVec 32 := BitVec.ofNat 32 (i 0).val
  let v6017 : Index := Scalar.indexCast arg0
  ![1, 10, v6017.toNat]
def k0_off23 (i : grid0.Coords) : Fin 3 → Nat :=
  let c0_2579 : Index := 0#32
  let c11_2580 : Index := 11#32
  let arg0 : BitVec 32 := BitVec.ofNat 32 (i 0).val
  let v6605 : Index := Scalar.indexCast arg0
  ![0, 11, v6605.toNat]
def k0_off24 (i : grid0.Coords) : Fin 3 → Nat :=
  let c1_2581 : Index := 1#32
  let c11_2582 : Index := 11#32
  let arg0 : BitVec 32 := BitVec.ofNat 32 (i 0).val
  let v6612 : Index := Scalar.indexCast arg0
  ![1, 11, v6612.toNat]
def k0_off25 (i : grid0.Coords) : Fin 3 → Nat :=
  let c0_2811 : Index := 0#32
  let c12_2812 : Index := 12#32
  let arg0 : BitVec 32 := BitVec.ofNat 32 (i 0).val
  let v7200 : Index := Scalar.indexCast arg0
  ![0, 12, v7200.toNat]
def k0_off26 (i : grid0.Coords) : Fin 3 → Nat :=
  let c1_2813 : Index := 1#32
  let c12_2814 : Index := 12#32
  let arg0 : BitVec 32 := BitVec.ofNat 32 (i 0).val
  let v7207 : Index := Scalar.indexCast arg0
  ![1, 12, v7207.toNat]
def k0_off27 (i : grid0.Coords) : Fin 3 → Nat :=
  let c0_3043 : Index := 0#32
  let c13_3044 : Index := 13#32
  let arg0 : BitVec 32 := BitVec.ofNat 32 (i 0).val
  let v7795 : Index := Scalar.indexCast arg0
  ![0, 13, v7795.toNat]
def k0_off28 (i : grid0.Coords) : Fin 3 → Nat :=
  let c1_3045 : Index := 1#32
  let c13_3046 : Index := 13#32
  let arg0 : BitVec 32 := BitVec.ofNat 32 (i 0).val
  let v7802 : Index := Scalar.indexCast arg0
  ![1, 13, v7802.toNat]
def k0_off29 (i : grid0.Coords) : Fin 3 → Nat :=
  let c0_3274 : Index := 0#32
  let c14_3275 : Index := 14#32
  let arg0 : BitVec 32 := BitVec.ofNat 32 (i 0).val
  let v8390 : Index := Scalar.indexCast arg0
  ![0, 14, v8390.toNat]
def k0_off30 (i : grid0.Coords) : Fin 3 → Nat :=
  let c1_3276 : Index := 1#32
  let c14_3277 : Index := 14#32
  let arg0 : BitVec 32 := BitVec.ofNat 32 (i 0).val
  let v8397 : Index := Scalar.indexCast arg0
  ![1, 14, v8397.toNat]
def k0_off31 (i : grid0.Coords) : Fin 3 → Nat :=
  let c0_3505 : Index := 0#32
  let c15_3506 : Index := 15#32
  let arg0 : BitVec 32 := BitVec.ofNat 32 (i 0).val
  let v8985 : Index := Scalar.indexCast arg0
  ![0, 15, v8985.toNat]
def k0_off32 (i : grid0.Coords) : Fin 3 → Nat :=
  let c1_3507 : Index := 1#32
  let c15_3508 : Index := 15#32
  let arg0 : BitVec 32 := BitVec.ofNat 32 (i 0).val
  let v8992 : Index := Scalar.indexCast arg0
  ![1, 15, v8992.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2x16x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S96x256x2048 : Shape := ⟨3, ![96, 256, 2048]⟩
abbrev S96x2x16 : Shape := ⟨3, ![96, 2, 16]⟩
abbrev S96x32x2048 : Shape := ⟨3, ![96, 32, 2048]⟩
abbrev S96x256x32 : Shape := ⟨3, ![96, 256, 32]⟩
abbrev S96x256x64 : Shape := ⟨3, ![96, 256, 64]⟩
abbrev S96x2x128x16x128 : Shape := ⟨5, ![96, 2, 128, 16, 128]⟩
abbrev S96x2x1x16x1 : Shape := ⟨5, ![96, 2, 1, 16, 1]⟩
abbrev S96x256x64x32 : Shape := ⟨4, ![96, 256, 64, 32]⟩
abbrev S96x256x64x246 : Shape := ⟨4, ![96, 256, 64, 246]⟩
abbrev S96x256x64x1 : Shape := ⟨4, ![96, 256, 64, 1]⟩

abbrev nBuf : Space → Nat
  | .hbm => 6
  | .vmem => 6
  | .smem => 0
  | _ => 0

abbrev bufTy : (tb : Table) → Fin (tcTables nBuf tb) → BufTy
  | .hbm, ⟨0, _⟩ => ⟨S96x256x2048, .fp8e4m3⟩
  | .hbm, ⟨1, _⟩ => ⟨S96x2x16, .f32⟩
  | .hbm, ⟨2, _⟩ => ⟨S96x32x2048, .bf16⟩
  | .hbm, ⟨3, _⟩ => ⟨S96x256x32, .bf16⟩
  | .hbm, ⟨4, _⟩ => ⟨S96x256x2048, .fp8e4m3⟩
  | .hbm, ⟨5, _⟩ => ⟨S96x256x64, .i8⟩
  | .local _ .vmem, ⟨0, _⟩ => ⟨S96x256x2048, .fp8e4m3⟩
  | .local _ .vmem, ⟨1, _⟩ => ⟨S96x2x16, .f32⟩
  | .local _ .vmem, ⟨2, _⟩ => ⟨S96x32x2048, .bf16⟩
  | .local _ .vmem, ⟨3, _⟩ => ⟨S96x256x32, .bf16⟩
  | .local _ .vmem, ⟨4, _⟩ => ⟨S96x256x2048, .fp8e4m3⟩
  | .local _ .vmem, ⟨5, _⟩ => ⟨S96x256x64, .i8⟩
  | _, _ => ⟨S96x256x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S96x256x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x32x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x256x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x256x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x256x64 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Tile.lean ====
/- One tile of the kernel. The body writes thirty-two tiles out, one for each pair of a column block `q` and a row
   block `p`; every one of them is the functions below at its `q` and `p`. The names are those of the kernel:
   `product` is the merged block `m`, `vreg` one of its vectors `xs[v]`, `groupMax` the maximum of every 32 columns,
   `wordV` the word of that maximum, `inverse` the multiplier's word, `storedV` the exponents a tile stores, `codes`
   the codes it stores. -/
module

public import proofs.«01_k».proof.Proof.Gen.KernelIdeal.Skeleton

@[expose] public section

noncomputable section

namespace Cert.Mine

open Idealize.ShloMosaic Idealize.SL.Sem
open Cert.KernelIdeal Cert.KernelIdeal.Gen

variable {F : FTy → Type} [FloatOps F]

/-! ## The merged block -/

/-- The scale of one block of rows, rounded and repeated over the block. -/
def scaleV (s : Elt F .f32) : FVec F S128x128 .bf16 :=
  broadcastTo S128x128 (truncf .bf16 (broadcast S1x128 s : FVec F S1x128 .f32) bitsLt_bf16_f32) broadcasts_S1x128_S128x128

/-- The codes of one column block, transposed. -/
def weightT (w : Vec F S1x256x128 .fp8e4m3) : FVec F S128x256 .bf16 :=
  extf .bf16 (transpose S128x256 [1, 0] (shapeCast S256x128 w shapeCasts_S1x256x128_S256x128) transposes_S256x128_p1_0_S128x256) bitsLt_fp8e4m3_bf16

/-- The scaled codes of one column block, the two row blocks side by side. -/
def scaledT (w : Vec F S1x256x128 .fp8e4m3) (s₀ s₁ : Elt F .f32) : FVec F S128x256 .bf16 :=
  concatenate S128x256 1
    [⟨S128x128, mulf (extractStridedSlice S128x128 ![0, 0] (weightT w) slices_S128x256_o0_0_S128x128) (scaleV s₀)⟩,
     ⟨S128x128, mulf (extractStridedSlice S128x128 ![0, 128] (weightT w) slices_S128x256_o0_128_S128x128) (scaleV s₁)⟩]
    concatenates_S128x128_S128x128_S128x256_d1

/-- Slot `k` of the right operand: the transposed `B` in the slot of the column block, zeros in the other three. -/
def slot (q k : Nat) (bt : Vec F S1x32x256 .bf16) : FVec F S32x256 .bf16 :=
  if k = q % 4 then k0_pay4 bt else k0_pay5

/-- The right operand of the block's product: the scaled codes over the four slots. -/
def right (q : Nat) (w : Vec F S1x256x128 .fp8e4m3) (s₀ s₁ : Elt F .f32) (bt : Vec F S1x32x256 .bf16) : FVec F S256x256 .bf16 :=
  concatenate S256x256 0
    [⟨S128x256, scaledT w s₀ s₁⟩, ⟨S32x256, slot q 0 bt⟩, ⟨S32x256, slot q 1 bt⟩, ⟨S32x256, slot q 2 bt⟩, ⟨S32x256, slot q 3 bt⟩]
    concatenates_S128x256_S32x256_S32x256_S32x256_S32x256_S256x256_d0

/-- The left operand: the identity beside four column blocks of the transposed `A`. -/
def left (at4 : Vec F S128x128 .bf16) : FVec F S128x256 .bf16 :=
  concatenate S128x256 1 [⟨S128x128, k0_pay3⟩, ⟨S128x128, at4⟩] concatenates_S128x128_S128x128_S128x256_d1

/-- The merged block of column block `q`, transposed: its rows are the 128 columns, its columns the 256 rows. -/
def product (q : Nat) (w : Vec F S1x256x128 .fp8e4m3) (s₀ s₁ : Elt F .f32) (bt : Vec F S1x32x256 .bf16)
    (at4 : Vec F S128x128 .bf16) : FVec F S128x256 .f32 :=
  matmul dot_S128x256_S256x256_S128x256_1_0_0_1_n_n none (left at4) (right q w s₀ s₁ bt)
    (constant S128x256 .f32 0x00000000#32)

/-! ## The maximum of every group of 32 columns -/

theorem slices_vreg (p v : Nat) (hp : p < 2) (hv : v < 16) : S128x256.Slices ![8 * v, 128 * p] S8x128 := by
  refine ⟨rfl, fun a => ?_⟩
  fin_cases a
  · show 8 * v + 8 ≤ 128; omega
  · show 128 * p + 128 ≤ 256; omega

/-- Columns `8 v` to `8 v + 7` of the merged block, for row block `p`. -/
def vreg (p : Fin 2) (m : FVec F S128x256 .f32) (v : Fin 16) : FVec F S8x128 .f32 :=
  extractStridedSlice S8x128 ![8 * v.val, 128 * p.val] m (slices_vreg p v p.isLt v.isLt)

/-- The vector of row numbers. -/
def rowNo : IVec S8x128 32 := iota .tc S8x128 32 [0] iota_S8x128_d0_w32

/-- The rows whose number has bit `d`. -/
def hasBit (d : BitVec 32) : IVec S8x128 1 := cmpi .ne (andi rowNo (broadcast S8x128 d)) (broadcast S8x128 0#32)

/-- The maximum of four vectors' absolute values, row by row. -/
def max4 (a b c d : FVec F S8x128 .f32) : FVec F S8x128 .f32 :=
  maximumf (maximumf (absf a) (absf b)) (maximumf (absf c) (absf d))

/-- Two vectors folded into one, at distance four: rows without bit 4 take `x`, the others `y`. -/
def fold4 (x y : FVec F S8x128 .f32) : FVec F S8x128 .f32 :=
  maximumf (select (hasBit 4#32) y x)
    (dynamicRotate 0 4#32 none (select (hasBit 4#32) x y) rotates_S8x128_d0)

/-- Two vectors folded into one, at distance `d` with `e = 8 - d`: rows without bit `d` take `x`, the others `y`. -/
def fold (d e : BitVec 32) (x y : FVec F S8x128 .f32) : FVec F S8x128 .f32 :=
  maximumf (select (hasBit d) y x)
    (select (hasBit d) (dynamicRotate 0 d none (select (hasBit d) x y) rotates_S8x128_d0)
      (dynamicRotate 0 e none (select (hasBit d) x y) rotates_S8x128_d0))

/-- The four maxima of 32 columns each, in rows `2 g` and `2 g + 1`. -/
def groupMax (xs : Fin 16 → FVec F S8x128 .f32) : FVec F S8x128 .f32 :=
  fold 1#32 7#32
    (fold 2#32 6#32 (fold4 (max4 (xs 0) (xs 1) (xs 2) (xs 3)) (max4 (xs 8) (xs 9) (xs 10) (xs 11)))
      (fold4 (max4 (xs 4) (xs 5) (xs 6) (xs 7)) (max4 (xs 12) (xs 13) (xs 14) (xs 15))))
    (fold 2#32 6#32 (fold4 (max4 (xs 0) (xs 1) (xs 2) (xs 3)) (max4 (xs 8) (xs 9) (xs 10) (xs 11)))
      (fold4 (max4 (xs 4) (xs 5) (xs 6) (xs 7)) (max4 (xs 12) (xs 13) (xs 14) (xs 15))))

/-! ## The word of a maximum, and what is read off it -/

/-- A vector whose elements are all one float. -/
def lane (b : BitVec 32) : FVec F S8x128 .f32 := broadcast S8x128 (Scalar.ofBits .f32 b : F .f32)

/-- One halving: the float is scaled by `c` where it is at least `b`. -/
def stepY (b c : BitVec 32) (y : FVec F S8x128 .f32) : FVec F S8x128 .f32 :=
  select (cmpf .oge y (lane b)) (mulf y (lane c)) y

/-- One halving: the exponent grows by `k` where the float is at least `b`. -/
def stepE (b k : BitVec 32) (y : FVec F S8x128 .f32) (e : IVec S8x128 32) : IVec S8x128 32 :=
  select (cmpf .oge y (lane b)) (addi e (broadcast S8x128 k)) e

/-- Before the halvings: a float below one is scaled by `2 ^ 126`. -/
def startY (x : FVec F S8x128 .f32) : FVec F S8x128 .f32 :=
  select (cmpf .olt x (lane 0x3F800000#32)) (mulf x (lane 0x7E800000#32)) x

/-- The exponent before the halvings. -/
def startE (x : FVec F S8x128 .f32) : IVec S8x128 32 :=
  select (cmpf .olt x (lane 0x3F800000#32)) (broadcast S8x128 0#32) (broadcast S8x128 126#32)

/-- The scaled number after 1 of the seven steps. -/
def y1 (x : FVec F S8x128 .f32) := stepY 0x5F800000#32 0x1F800000#32 (startY x)
/-- The scaled number after 2 of the seven steps. -/
def y2 (x : FVec F S8x128 .f32) := stepY 0x4F800000#32 0x2F800000#32 (y1 x)
/-- The scaled number after 3 of the seven steps. -/
def y3 (x : FVec F S8x128 .f32) := stepY 0x47800000#32 0x37800000#32 (y2 x)
/-- The scaled number after 4 of the seven steps. -/
def y4 (x : FVec F S8x128 .f32) := stepY 0x43800000#32 0x3B800000#32 (y3 x)
/-- The scaled number after 5 of the seven steps. -/
def y5 (x : FVec F S8x128 .f32) := stepY 0x41800000#32 0x3D800000#32 (y4 x)
/-- The scaled number after 6 of the seven steps. -/
def y6 (x : FVec F S8x128 .f32) := stepY 0x40800000#32 0x3E800000#32 (y5 x)
/-- The scaled number after 7 of the seven steps. -/
def y7 (x : FVec F S8x128 .f32) := stepY 0x40000000#32 0x3F000000#32 (y6 x)
/-- The exponent after 1 of the seven steps. -/
def e1 (x : FVec F S8x128 .f32) := stepE 0x5F800000#32 64#32 (startY x) (startE x)
/-- The exponent after 2 of the seven steps. -/
def e2 (x : FVec F S8x128 .f32) := stepE 0x4F800000#32 32#32 (y1 x) (e1 x)
/-- The exponent after 3 of the seven steps. -/
def e3 (x : FVec F S8x128 .f32) := stepE 0x47800000#32 16#32 (y2 x) (e2 x)
/-- The exponent after 4 of the seven steps. -/
def e4 (x : FVec F S8x128 .f32) := stepE 0x43800000#32 8#32 (y3 x) (e3 x)
/-- The exponent after 5 of the seven steps. -/
def e5 (x : FVec F S8x128 .f32) := stepE 0x41800000#32 4#32 (y4 x) (e4 x)
/-- The exponent after 6 of the seven steps. -/
def e6 (x : FVec F S8x128 .f32) := stepE 0x40800000#32 2#32 (y5 x) (e5 x)
/-- The exponent after 7 of the seven steps. -/
def e7 (x : FVec F S8x128 .f32) := stepE 0x40000000#32 1#32 (y6 x) (e6 x)

/-- The word of every element. -/
def wordV (x : FVec F S8x128 .f32) : IVec S8x128 32 :=
  select (cmpf .olt (y7 x) (lane 0x40000000#32))
    (addi (shli (e7 x) (broadcast S8x128 23#32)) (fptosi 32 (mulf (y7 x) (lane 0x4B000000#32))))
    (broadcast S8x128 2139095040#32)

/-- The word of the multiplier of every element. -/
def inverse (u : IVec S8x128 32) : IVec S8x128 32 :=
  select (andi (cmpi .sge (addi u (broadcast S8x128 2097153#32)) (broadcast S8x128 83886080#32))
      (cmpi .slt u (broadcast S8x128 2139095040#32)))
    (subi (broadcast S8x128 2130706432#32)
      (andi (subi (addi u (broadcast S8x128 2097153#32)) (broadcast S8x128 67108864#32)) (broadcast S8x128 4286578688#32)))
    (broadcast S8x128 1065353216#32)

/-- The multipliers a tile keeps. -/
def multipliers (u : IVec S8x128 32) : FVec F S1x8x128 .f32 :=
  shapeCast S1x8x128 (bitcastToFloat .f32 (inverse u) : FVec F S8x128 .f32) shapeCasts_S8x128_S1x8x128

/-- The exponents a tile keeps. -/
def storedV (u : IVec S8x128 32) : IVec S1x8x128 32 :=
  shapeCast S1x8x128 (subi (broadcast S8x128 254#32) (shrsi (inverse u) (broadcast S8x128 23#32))) shapeCasts_S8x128_S1x8x128

/-! ## The codes -/

/-- One vector times its group's multipliers, clipped. -/
def clipped (x : FVec F S8x128 .f32) (iv : Vec F S1x128 .f32) : FVec F S8x128 .f32 :=
  minimumf (lane 0x43E00000#32)
    (maximumf (lane 0xC3E00000#32)
      (mulf x (broadcastTo S8x128 (shapeCast S1x128 iv shapeCasts_S1x128_S1x128) broadcasts_S1x128_S8x128)))

/-- The codes of a tile: the sixteen vectors, four to a group, stacked, converted and transposed. -/
def codes (xs : Fin 16 → FVec F S8x128 .f32) (iv : Fin 4 → Vec F S1x128 .f32) : FVec F S1x128x128 .fp8e4m3 :=
  shapeCast S1x128x128
    (transpose S128x128 [1, 0]
      (truncf .fp8e4m3
        (concatenate S128x128 0
          (List.ofFn fun v : Fin 16 => ⟨S8x128, clipped (xs v) (iv ⟨v.val / 4, by omega⟩)⟩)
          concatenates_S8x128_S8x128_S8x128_S8x128_S8x128_S8x128_S8x128_S8x128_S8x128_S8x128_S8x128_S8x128_S8x128_S8x128_S8x128_S8x128_S128x128_d0)
        bitsLt_fp8e4m3_f32)
      transposes_S128x128_p1_0_S128x128)
    shapeCasts_S128x128_S1x128x128

end Cert.Mine

end
-- ==== Proof.Pieces.lean ====
/- What one run of the body stores, tile by tile, as pieces (a rectangle and the values put in it): `codePieces` for the
   codes, `multPieces` and `expoPieces` for the two scratch buffers, `expPieces` for the exponents. Tile `n` is column
   block `n / 2`, row block `n % 2`. -/
module

public import proofs.«01_k».proof.Proof.Tile
public import proofs.«01_k».proof.Proof.Gen.KernelIdeal.Frame.RunA

@[expose] public section

noncomputable section

namespace Cert.Mine

open Idealize.ShloMosaic Idealize.SL.Sem
open Cert.KernelIdeal Cert.KernelIdeal.Gen

variable {F : FTy → Type} [FloatOps F]

/-- The column block of tile `n`. -/
abbrev tq (n : Nat) : Nat := n / 2 % 16
/-- The row block of tile `n`. -/
abbrev tp (n : Nat) : Nat := n % 2

/-- There are 16 column blocks. -/
theorem tq_lt (n : Nat) : tq n < 16 := Nat.mod_lt _ (by decide)
/-- There are 2 row blocks. -/
theorem tp_lt (n : Nat) : tp n < 2 := Nat.mod_lt _ (by decide)

/-- Column block `q` of the codes lies in the block. -/
theorem inb_col (w : Fin 3 → Nat) (hw : w = S1x256x128.size) (q : Nat) (hq : q < 16) :
    ∀ a, (![0, 0, 128 * q] : Fin 3 → Nat) a + w a ≤ S1x256x2048.size a := by
  subst hw; intro a; fin_cases a
  · show 0 + 1 ≤ 1; omega
  · show 0 + 256 ≤ 256; omega
  · show 128 * q + 128 ≤ 2048; omega

/-- Column block `q` of the first low-rank factor lies in the block. -/
theorem inb_lowRank (q : Nat) (hq : q < 16) : ∀ a, (![0, 0, 128 * q] : Fin 3 → Nat) a + S1x32x128.size a ≤ S1x32x2048.size a := by
  intro a; fin_cases a
  · show 0 + 1 ≤ 1; omega
  · show 0 + 32 ≤ 32; omega
  · show 128 * q + 128 ≤ 2048; omega

/-- Half `k` of the scratch buffer of transposed factors lies in it. -/
theorem inb_half (k : Nat) (hk : k < 2) : ∀ a, (![0, 256 * k] : Fin 2 → Nat) a + S128x256.size a ≤ S128x512.size a := by
  intro a; fin_cases a
  · show 0 + 128 ≤ 128; omega
  · show 256 * k + 256 ≤ 512; omega

/-- Quarter `k` of the scratch buffer of transposed factors lies in it. -/
theorem inb_quarter (k : Nat) (hk : k < 4) : ∀ a, (![0, 128 * k] : Fin 2 → Nat) a + S128x128.size a ≤ S128x512.size a := by
  intro a; fin_cases a
  · show 0 + 128 ≤ 128; omega
  · show 128 * k + 128 ≤ 512; omega

/-- The scale of row block `p`, column block `q`, matrix `b` lies in the array of scales. -/
theorem inb_scale (p q b : Nat) (hp : p < 2) (hq : q < 16) (hb : b < 96) :
    ∀ a, (![p, q, b] : Fin 3 → Nat) a + S1x1x1.size a ≤ S2x16x96.size a := by
  intro a; fin_cases a
  · show p + 1 ≤ 2; omega
  · show q + 1 ≤ 16; omega
  · show b + 1 ≤ 96; omega

/-- Tile `n`'s slot lies in the buffer of multipliers. -/
theorem inb_mult (n : Nat) : ∀ a, (![n % 32, 0, 0] : Fin 3 → Nat) a + S1x8x128.size a ≤ S32x8x128.size a := by
  intro a; fin_cases a
  · show n % 32 + 1 ≤ 32; omega
  · show 0 + 8 ≤ 8; omega
  · show 0 + 128 ≤ 128; omega

/-- Row `2 g` lies in a tile's slot. -/
theorem inb_row (g : Nat) (hg : g < 4) : ∀ a, (![2 * g, 0] : Fin 2 → Nat) a + S1x128.size a ≤ S8x128.size a := by
  intro a; fin_cases a
  · show 2 * g + 1 ≤ 8; omega
  · show 0 + 128 ≤ 128; omega

/-- Tile `n`'s rows lie in the buffer of exponents. -/
theorem inb_expo (n : Nat) : ∀ a, (![tp n, 8 * tq n, 0] : Fin 3 → Nat) a + S1x8x128.size a ≤ S2x128x128.size a := by
  have := tq_lt n
  have := tp_lt n
  intro a; fin_cases a
  · show tp n + 1 ≤ 2; omega
  · show 8 * tq n + 8 ≤ 128; omega
  · show 0 + 128 ≤ 128; omega

/-- Tile `n` lies in the block of codes. -/
theorem inb_code (n : Nat) : ∀ a, (![0, 128 * tp n, 128 * tq n] : Fin 3 → Nat) a + S1x128x128.size a ≤ S1x256x2048.size a := by
  have := tq_lt n
  have := tp_lt n
  intro a; fin_cases a
  · show 0 + 1 ≤ 1; omega
  · show 128 * tp n + 128 ≤ 256; omega
  · show 128 * tq n + 128 ≤ 2048; omega

/-- The grid point's coordinate, read as an index, is below 96. -/
theorem point_lt (i : grid0.Coords) : (Scalar.indexCast (BitVec.ofNat 32 (i 0).val)).toNat < 96 := by
  have h : (i 0).val < 96 := (i 0).isLt
  have e := congrFun (k0_off1_eq i) 2
  have e' : (Scalar.indexCast (BitVec.ofNat 32 (i 0).val)).toNat = (i 0).val := e
  omega

section

variable (i : grid0.Coords) (arg1 : Memref sig .tc .smem S2x16x96 .f32) (harg1 : arg1.IsWhole)
  (arg2 : Memref sig .tc .vmem S1x256x2048 .fp8e4m3) (harg2 : arg2.IsWhole)
  (arg3 : Memref sig .tc .vmem S1x32x2048 .bf16) (harg3 : arg3.IsWhole)
  (arg4 : Memref sig .tc .vmem S1x32x256 .bf16) (harg4 : arg4.IsWhole)
  (arg7 : Memref sig .tc .vmem S128x512 .bf16) (arg8 : Memref sig .tc .vmem S32x8x128 .f32)
  (arg9 : Memref sig .tc .vmem S2x128x128 .i32)
  (x0 : Vec F S2x16x96 .f32) (x1 : Vec F S1x256x2048 .fp8e4m3) (x2 : Vec F S1x32x2048 .bf16) (x3 : Vec F S1x32x256 .bf16)

/-- Column block `q` of the codes. -/
def colLoad (q : Nat) (hq : q < 16) : Vec F S1x256x128 .fp8e4m3 :=
  View.readAt (Elt F) arg2.view (Rect.unit (s := S1x256x2048) ![0, 0, 128 * q] S1x256x128.size (inb_col _ rfl q hq)).toLoadRect
    (harg2.unread x1)

/-- The scale of row block `p` and column block `q`. -/
def scaleLoad (p q : Nat) (hp : p < 2) (hq : q < 16) : Elt F .f32 :=
  View.readAt (Elt F) arg1.view
    (Rect.unit (s := S2x16x96) ![p, q, (Scalar.indexCast (BitVec.ofNat 32 (i 0).val)).toNat] S1x1x1.size
      (inb_scale p q _ hp hq (point_lt i))).toLoadRect
    (harg1.unread x0) (Shape.Idx.first (numel1_S1x1x1.symm ▸ Nat.one_pos))

/-- Column block `q` of the low-rank `A`. -/
def lowRankLoad (q : Nat) (hq : q < 16) : Vec F S1x32x128 .bf16 :=
  View.readAt (Elt F) arg3.view (Rect.unit (s := S1x32x2048) ![0, 0, 128 * q] S1x32x128.size (inb_lowRank q hq)).toLoadRect
    (harg3.unread x2)

/-- The transposed low-rank `B`. -/
def bLoad : Vec F S1x32x256 .bf16 :=
  View.readAt (Elt F) arg4.view
    (Rect.unit (s := S1x32x256) ![0, 0, 0] S1x32x256.size inb_S1x32x256_S1x32x256_0_0_0).toLoadRect (harg4.unread x3)

/-- The transposed low-rank `A`, half by half: half `k` holds column blocks `8 k` to `8 k + 7`. -/
def atHalf (k : Nat) (hk : k < 2) : FVec F S128x256 .bf16 :=
  shapeCast S128x256
    (truncf .bf16
      (matmul dot_S128x128_S256x128_S128x256_1_1_0_0_n_n none k0_pay3
        (concatenate S256x128 0
          (List.ofFn fun j : Fin 8 =>
            ⟨S32x128, shapeCast S32x128 (lowRankLoad arg3 harg3 x2 (8 * k + j.val) (by omega)) shapeCasts_S1x32x128_S32x128⟩)
          concatenates_S32x128_S32x128_S32x128_S32x128_S32x128_S32x128_S32x128_S32x128_S256x128_d0)
        (constant S128x256 .f32 0x00000000#32)) bitsLt_bf16_f32)
    shapeCasts_S128x256_S128x256

/-- What the buffer of the transposed low-rank `A` holds. -/
def atPieces : List (View.Piece (Elt F) S128x512 .bf16) :=
  [⟨Rect.unit (s := S128x512) ![0, 256 * 1] S128x256.size (inb_half 1 (by decide)), atHalf arg3 harg3 x2 1 (by decide)⟩,
   ⟨Rect.unit (s := S128x512) ![0, 256 * 0] S128x256.size (inb_half 0 (by decide)), atHalf arg3 harg3 x2 0 (by decide)⟩]

/-- Four column blocks of the transposed low-rank `A`, read back: those of `4 k` to `4 k + 3`. -/
def atLoad (k : Nat) (hk : k < 4) : Vec F S128x128 .bf16 :=
  arg7.view.readCov (atPieces arg3 harg3 x2)
    (Rect.unit (s := S128x512) ![0, 128 * k] S128x128.size (inb_quarter k hk)).toLoadRect

/-- The merged block of tile `n`. -/
def tileProduct (n : Nat) : FVec F S128x256 .f32 :=
  product (tq n) (colLoad arg2 harg2 x1 (tq n) (tq_lt n)) (scaleLoad i arg1 harg1 x0 0 (tq n) (by decide) (tq_lt n))
    (scaleLoad i arg1 harg1 x0 1 (tq n) (by decide) (tq_lt n)) (bLoad arg4 harg4 x3)
    (atLoad arg3 harg3 arg7 x2 (tq n / 4) (by have := tq_lt n; omega))

/-- The sixteen vectors of tile `n`. -/
def tileVregs (n : Nat) (v : Fin 16) : FVec F S8x128 .f32 :=
  vreg ⟨tp n, tp_lt n⟩ (tileProduct i arg1 harg1 arg2 harg2 arg3 harg3 arg4 harg4 arg7 x0 x1 x2 x3 n) v

/-- The words of the maxima of tile `n`. -/
def tileWord (n : Nat) : IVec S8x128 32 :=
  wordV (groupMax (tileVregs i arg1 harg1 arg2 harg2 arg3 harg3 arg4 harg4 arg7 x0 x1 x2 x3 n))

/-- The multipliers tile `n` keeps, as a piece. -/
def multPiece (n : Nat) : View.Piece (Elt F) S32x8x128 .f32 :=
  ⟨Rect.unit (s := S32x8x128) ![n % 32, 0, 0] S1x8x128.size (inb_mult n),
    multipliers (tileWord i arg1 harg1 arg2 harg2 arg3 harg3 arg4 harg4 arg7 x0 x1 x2 x3 n)⟩

/-- The multipliers of the first `n` tiles, the last first. -/
def multPieces : Nat → List (View.Piece (Elt F) S32x8x128 .f32)
  | 0 => []
  | n + 1 => multPiece i arg1 harg1 arg2 harg2 arg3 harg3 arg4 harg4 arg7 x0 x1 x2 x3 n :: multPieces n

/-- The exponents of the first `n` tiles, the last first. -/
def expoPieces : Nat → List (View.Piece (Elt F) S2x128x128 .i32)
  | 0 => []
  | n + 1 => ⟨Rect.unit (s := S2x128x128) ![tp n, 8 * tq n, 0] S1x8x128.size (inb_expo n),
      storedV (tileWord i arg1 harg1 arg2 harg2 arg3 harg3 arg4 harg4 arg7 x0 x1 x2 x3 n)⟩ :: expoPieces n

/-- One row of a tile's multipliers. -/
abbrev rowRect (g : Nat) (hg : g < 4) : Rect S8x128 := Rect.unit (s := S8x128) ![2 * g, 0] S1x128.size (inb_row g hg)

/-- Row `2 g` of the multipliers of tile `n`, read back after `n + 1` tiles. -/
def rowLoad (n g : Nat) (hg : g < 4) : Vec F S1x128 .f32 :=
  LoadRect.valAlong (lr := (rowRect g hg).toLoadRect)
    (LR := (Rect.unit (s := S32x8x128) ![n % 32, 0, 0] S1x8x128.size (inb_mult n)).withinL
      ((rowRect g hg).toLoadRect.consLift ![1, 8, 128] (by decide) (by decide)) (fun _ => rfl))
    (by rfl)
    (arg8.view.readCov (multPieces i arg1 harg1 arg2 harg2 arg3 harg3 arg4 harg4 arg7 x0 x1 x2 x3 (n + 1))
      ((Rect.unit (s := S32x8x128) ![n % 32, 0, 0] S1x8x128.size (inb_mult n)).withinL
        ((rowRect g hg).toLoadRect.consLift ![1, 8, 128] (by decide) (by decide)) (fun _ => rfl)))

/-- The codes of the first `n` tiles, the last first. -/
def codePieces : Nat → List (View.Piece (Elt F) S1x256x2048 .fp8e4m3)
  | 0 => []
  | n + 1 => ⟨Rect.unit (s := S1x256x2048) ![0, 128 * tp n, 128 * tq n] S1x128x128.size (inb_code n),
      codes (tileVregs i arg1 harg1 arg2 harg2 arg3 harg3 arg4 harg4 arg7 x0 x1 x2 x3 n)
        (fun g => rowLoad i arg1 harg1 arg2 harg2 arg3 harg3 arg4 harg4 arg7 arg8 x0 x1 x2 x3 n g.val g.isLt)⟩ :: codePieces n

/-- Every second row of one half of the exponents. -/
abbrev evenRows : LoadRect S128x128 := { off := ![0, 0], size := ![64, 128], stride := ![2, 1], inb := inb_S128x128_S64x128_0_0_s_2_1 }

/-- Row block `p` lies in the buffer of exponents. -/
theorem inb_rowBlock (p : Nat) (hp : p < 2) : ∀ a, (![p, 0, 0] : Fin 3 → Nat) a + (![1, 128, 128] : Fin 3 → Nat) a ≤ S2x128x128.size a := by
  intro a; fin_cases a
  · show p + 1 ≤ 2; omega
  · show 0 + 128 ≤ 128; omega
  · show 0 + 128 ≤ 128; omega

/-- The even rows have as many elements with the leading unit axis as without. -/
theorem numel_evenRows : Shape.numel ⟨2, ![64, 128]⟩ = Shape.numel ⟨3, Fin.cons 1 ![64, 128]⟩ := by decide +kernel

/-- The exponents of row block `p`, read back after all the tiles. -/
def expoLoad (p : Nat) (hp : p < 2) : Vec F S64x128 .i32 :=
  LoadRect.valAlong (lr := evenRows)
    (LR := (Rect.unit (s := S2x128x128) ![p, 0, 0] ![1, 128, 128] (inb_rowBlock p hp)).withinL
      (evenRows.consLift ![1, 128, 128] (by decide) (by decide)) (fun _ => rfl))
    numel_evenRows
    (arg9.view.readCov (expoPieces i arg1 harg1 arg2 harg2 arg3 harg3 arg4 harg4 arg7 x0 x1 x2 x3 32)
      ((Rect.unit (s := S2x128x128) ![p, 0, 0] ![1, 128, 128] (inb_rowBlock p hp)).withinL
        (evenRows.consLift ![1, 128, 128] (by decide) (by decide)) (fun _ => rfl)))

/-- Row block `p` lies in the block of stored exponents. -/
theorem inb_exps (p : Nat) (hp : p < 2) : ∀ a, (![0, 0, 128 * p] : Fin 3 → Nat) a + (![1, 64, 128] : Fin 3 → Nat) a ≤ S1x64x256.size a := by
  intro a; fin_cases a
  · show 0 + 1 ≤ 1; omega
  · show 0 + 64 ≤ 64; omega
  · show 128 * p + 128 ≤ 256; omega

/-- The exponents of the two row blocks. -/
def expPieces : List (View.Piece (Elt F) S1x64x256 .i8) :=
  [⟨Rect.unit (s := S1x64x256) ![0, 0, 128 * 1] ![1, 64, 128] (inb_exps 1 (by decide)),
      k0_pay2 (expoLoad i arg1 harg1 arg2 harg2 arg3 harg3 arg4 harg4 arg7 arg9 x0 x1 x2 x3 1 (by decide))⟩,
   ⟨Rect.unit (s := S1x64x256) ![0, 0, 128 * 0] ![1, 64, 128] (inb_exps 0 (by decide)),
      k0_pay1 (expoLoad i arg1 harg1 arg2 harg2 arg3 harg3 arg4 harg4 arg7 arg9 x0 x1 x2 x3 0 (by decide))⟩]

end

end Cert.Mine

end
-- ==== Proof.TileValue.lean ====
/- The values of one tile over the extended reals, index by index: the merged block. -/
module

public import proofs.«01_k».proof.Proof.Tile
public import Idealize.ShloMosaic.Lib.Pointwise

@[expose] public section

noncomputable section

namespace Cert.Mine

open Idealize.ShloMosaic Idealize.ShloMosaic.Tactic Idealize.SL.Sem
open Cert.KernelIdeal Cert.KernelIdeal.Gen

/-- A selection by a decided proposition is an if-then-else. -/
theorem select_ofBool {A : Type} (p : Prop) [Decidable p] (x y : A) :
    Scalar.select (BitVec.ofBool (decide p)) x y = if p then x else y := by
  by_cases h : p <;> simp [Scalar.select, h]

/-- The identity at an index. -/
theorem eye_apply (a b : Fin 128) :
    (k0_pay3 : FVec Ideal S128x128 .bf16) (ix2 a b) = if b = a then (1 : EReal) else 0 := by
  pointwise [k0_pay3]
  have h : (BitVec.ofNat 32 b.val == BitVec.ofNat 32 a.val) = decide (b = a) := by
    rw [Bool.eq_iff_iff, beq_iff_eq, decide_eq_true_iff, Fin.ext_iff]
    constructor
    · intro h
      have := congrArg BitVec.toNat h
      simp only [BitVec.toNat_ofNat] at this
      omega
    · intro h; rw [h]
  simp only [IntOp.cmpi, h, select_ofBool]

/-- The slot of the column block holds `bt`, the others zero. -/
theorem slot_apply (q k : Nat) (bt : Vec Ideal S1x32x256 .bf16) (a : Fin 32) (b : Fin 256) :
    slot q k bt (ix2 a b) = if k = q % 4 then (bt (ix3 0 a b) : EReal) else 0 := by
  unfold slot
  split
  · pointwise [k0_pay4]
  · pointwise [k0_pay5]

/-- A sum over 128 positions that is zero outside one block of 32. -/
theorem sum_block (g : Fin 128 → EReal) (o : Nat) (ho : o + 32 ≤ 128) (hz : ∀ x, x.val < o ∨ o + 32 ≤ x.val → g x = 0) :
    ∑ x, g x = ∑ k : Fin 32, g ⟨o + k.val, by omega⟩ := by
  symm
  refine Finset.sum_of_injOn (fun k : Fin 32 => (⟨o + k.val, by omega⟩ : Fin 128)) ?_ (by simp) ?_ (fun _ _ => rfl)
  · intro a _ b _ h
    simp only [Fin.mk.injEq] at h
    exact Fin.ext (by omega)
  · intro x _ hx
    refine hz x ?_
    by_contra hc
    push Not at hc
    exact hx ⟨⟨x.val - o, by omega⟩, by simp, Fin.ext (by simp; omega)⟩

/-- The merged block of column block `q`: column `c` and row `r`. -/
theorem product_apply (q : Nat) (w : Vec Ideal S1x256x128 .fp8e4m3) (s₀ s₁ : Elt Ideal .f32) (bt : Vec Ideal S1x32x256 .bf16)
    (at4 : Vec Ideal S128x128 .bf16) (c : Fin 128) (r : Fin 256) :
    product q w s₀ s₁ bt at4 (ix2 c r)
      = ((w (ix3 0 r c) : EReal) * (if r.val < 128 then s₀ else s₁)
        + ∑ k : Fin 32, (at4 (ix2 c ⟨32 * (q % 4) + k.val, by omega⟩) : EReal) * bt (ix3 0 k r) : EReal) := by
  pointwise [product, left, right, scaledT, weightT, scaleV]
  simp only [slot_apply, eye_apply]
  rw [Fin.sum_univ_two_halves 128 128 rfl]
  have hq : q % 4 < 4 := Nat.mod_lt _ (by decide)
  congr 1
  · rw [Finset.sum_eq_single c]
    · have e : ¬ r.val < 128 → 128 + (r.val - 128) = r.val := by omega
      by_cases h : r.val < 128
      · simp [h]
      · simp [h, e h]
    · intro x _ hx
      simp [hx]
    · simp
  · rw [sum_block _ (32 * (q % 4)) (by omega)]
    · refine Finset.sum_congr rfl fun k _ => ?_
      have hk := k.isLt
      have e : 128 + (32 * (q % 4) + k.val) - 128 = 32 * (q % 4) + k.val := by omega
      have n : ¬ 128 + (32 * (q % 4) + k.val) < 128 := by omega
      simp only [dif_neg n, e]
      congr 1
      split_ifs <;> first
        | (exfalso; omega)
        | (congr 2; exact Fin.ext (by simp only; omega))
    · intro x hx
      have hx' := x.isLt
      have e : 128 + x.val - 128 = x.val := by omega
      have n : ¬ 128 + x.val < 128 := by omega
      simp only [dif_neg n, e]
      refine Eq.trans (congrArg (fun z : EReal => (_ : EReal) * z) (?_ : _ = (0 : EReal))) (mul_zero (M₀ := EReal) _)
      split_ifs <;> first
        | (exfalso; omega)
        | rfl

end Cert.Mine

end
-- ==== Proof.TileMax.lean ====
/- The maxima of one tile over the extended reals: rows `2 g` and `2 g + 1` of `groupMax` hold the maximum of group `g`. -/
module

public import proofs.«01_k».proof.Proof.Tile
public import Idealize.ShloMosaic.Lib.Pointwise

@[expose] public section

noncomputable section

namespace Cert.Mine

open Idealize.ShloMosaic Idealize.ShloMosaic.Tactic Idealize.SL.Sem
open Cert.KernelIdeal Cert.KernelIdeal.Gen

/-- The bits of a row number. -/
theorem hasBit_apply (d : BitVec 32) (a : Fin 8) (l : Fin 128) :
    hasBit d (ix2 a l) = BitVec.ofBool ((BitVec.ofNat 32 a.val &&& d) != 0#32) := by
  pointwise [hasBit, rowNo]
  rfl

/-- Eight numbers' maximum. -/
def max8 (f : Fin 8 → EReal) : EReal :=
  max (max (max (f 0) (f 1)) (max (f 2) (f 3))) (max (max (f 4) (f 5)) (max (f 6) (f 7)))

/-- Group `g`'s four vectors, folded. -/
def quad (xs : Fin 16 → FVec Ideal S8x128 .f32) (g : Fin 4) : FVec Ideal S8x128 .f32 :=
  max4 (xs ⟨4 * g.val, by omega⟩) (xs ⟨4 * g.val + 1, by omega⟩) (xs ⟨4 * g.val + 2, by omega⟩) (xs ⟨4 * g.val + 3, by omega⟩)

/-- The maxima of a tile are the folds of the four groups. -/
theorem groupMax_quad (xs : Fin 16 → FVec Ideal S8x128 .f32) :
    groupMax xs = fold 1#32 7#32 (fold 2#32 6#32 (fold4 (quad xs 0) (quad xs 2)) (fold4 (quad xs 1) (quad xs 3)))
      (fold 2#32 6#32 (fold4 (quad xs 0) (quad xs 2)) (fold4 (quad xs 1) (quad xs 3))) := rfl

/-- Row `2 g` of the folded vectors is the maximum of group `g`'s eight rows. -/
theorem groupMax_row (xs : Fin 16 → FVec Ideal S8x128 .f32) (g : Fin 4) (l : Fin 128) :
    groupMax xs (ix2 (⟨2 * g.val, by omega⟩ : Fin 8) l) = max8 fun s => quad xs g (ix2 s l) := by
  rw [groupMax_quad]
  generalize quad xs = m
  fin_cases g <;>
  · pointwise [fold, fold4, hasBit_apply]
    simp [Scalar.select, max8]
    exact eq_of_forall_ge_iff fun (c : EReal) => by simp only [max_le_iff]; tauto

/-- Eight numbers' maximum is at most `c` when each of them is. -/
theorem max8_le (f : Fin 8 → EReal) (c : EReal) : max8 f ≤ c ↔ ∀ s, f s ≤ c := by
  simp only [max8, max_le_iff]
  constructor
  · intro h s
    fin_cases s <;> simp only [Fin.zero_eta, Fin.mk_one, Fin.reduceFinMk] <;> tauto
  · intro h
    exact ⟨⟨⟨h 0, h 1⟩, h 2, h 3⟩, ⟨h 4, h 5⟩, h 6, h 7⟩

/-- A folded element is at most `c` when the four elements are. -/
theorem quad_le (xs : Fin 16 → FVec Ideal S8x128 .f32) (g : Fin 4) (j : S8x128.Idx) (c : EReal) :
    (quad xs g j : EReal) ≤ c
      ↔ ∀ a : Fin 4, (FloatOps.absf (F := Ideal) (φ := .f32) (xs ⟨4 * g.val + a.val, by omega⟩ j) : EReal) ≤ c := by
  have e : (quad xs g j : EReal) = max
      (max (FloatOps.absf (F := Ideal) (φ := .f32) (xs ⟨4 * g.val, by omega⟩ j)) (FloatOps.absf (F := Ideal) (φ := .f32) (xs ⟨4 * g.val + 1, by omega⟩ j)) : EReal)
      (max (FloatOps.absf (F := Ideal) (φ := .f32) (xs ⟨4 * g.val + 2, by omega⟩ j)) (FloatOps.absf (F := Ideal) (φ := .f32) (xs ⟨4 * g.val + 3, by omega⟩ j)) : EReal) := rfl
  rw [e, max_le_iff, max_le_iff, max_le_iff]
  constructor
  · intro h a
    fin_cases a
    · exact h.1.1
    · exact h.1.2
    · exact h.2.1
    · exact h.2.2
  · intro h
    exact ⟨⟨h 0, h 1⟩, h 2, h 3⟩

/-- Row `2 g` of the folded vectors is the maximum of the 32 columns of group `g`. -/
theorem groupMax_apply (xs : Fin 16 → FVec Ideal S8x128 .f32) (g : Fin 4) (l : Fin 128) :
    groupMax xs (ix2 (⟨2 * g.val, by omega⟩ : Fin 8) l)
      = Finset.univ.fold max (⊥ : EReal) fun k : Fin 32 =>
          FloatOps.absf (F := Ideal) (φ := .f32) (xs ⟨4 * g.val + k.val / 8, by omega⟩ (ix2 (⟨k.val % 8, by omega⟩ : Fin 8) l)) := by
  rw [groupMax_row]
  refine eq_of_forall_ge_iff fun c => ?_
  rw [Finset.fold_max_le, max8_le]
  simp only [quad_le, bot_le, true_and, Finset.mem_univ, forall_const]
  constructor
  · intro h k
    exact h ⟨k.val % 8, by omega⟩ ⟨k.val / 8, by omega⟩
  · intro h s a
    have h' := h ⟨8 * a.val + s.val, by omega⟩
    have e1 : (8 * a.val + s.val) / 8 = a.val := by omega
    have e2 : (8 * a.val + s.val) % 8 = s.val := by omega
    simp only [e1, e2] at h'
    exact h'

end Cert.Mine

end
-- ==== Proof.Word.lean ====
/- THE WORD OF A NONNEGATIVE NUMBER: seven conditional halvings write `x ≥ 0` as `r · 2^(n-126)` with
   `r < 2`, and the word is `n · 2^23 + ⌊r · 2^23⌋`, the bits of the float that `x` truncates to. -/
module

public import Idealize.ShloMosaic.PureOps.Ideal

@[expose] public section

noncomputable section
namespace Cert.Mine

open Idealize.ShloMosaic

/-- One halving: a value at least `2^k` is scaled down by `2^k` and `k` is added to the exponent. -/
def wstep (k : Nat) (p : EReal × BitVec 32) : EReal × BitVec 32 :=
  (if ((2 ^ k : ℝ) : EReal) ≤ p.1 then p.1 * (((2 ^ k)⁻¹ : ℝ) : EReal) else p.1,
    if ((2 ^ k : ℝ) : EReal) ≤ p.1 then p.2 + BitVec.ofNat 32 k else p.2)

/-- The start of the halvings: a value below one is first scaled up by `2^126`. -/
def wstart (x : EReal) : EReal × BitVec 32 :=
  (if x < 1 then x * ((2 ^ 126 : ℝ) : EReal) else x, if x < 1 then 0#32 else 126#32)

/-- The value in `[0, 2)` and the exponent that the halvings end with. -/
def wend (x : EReal) : EReal × BitVec 32 :=
  wstep 1 (wstep 2 (wstep 4 (wstep 8 (wstep 16 (wstep 32 (wstep 64 (wstart x)))))))

/-- The word of `x`: exponent and truncated mantissa, or the word of infinity. -/
def word (x : EReal) : BitVec 32 :=
  if (wend x).1 < ((2 : ℝ) : EReal) then
    ((wend x).2 <<< 23) + Ideal.fptosi 32 ((wend x).1 * ((2 ^ 23 : ℝ) : EReal))
  else 0x7F800000#32

/-- The pair `p` writes the number `x` as `r · 2^n / 2^126`, with `r` below `2^k`, `n` at most `b`, and
    `r` at least one unless `n` is zero. -/
def Rep (x : ℝ) (k b : Nat) (p : EReal × BitVec 32) : Prop :=
  ∃ (r : ℝ) (n : Nat), p = ((r : EReal), BitVec.ofNat 32 n) ∧ 0 ≤ r ∧ r < 2 ^ k ∧ n ≤ b ∧ (1 ≤ r ∨ n = 0) ∧
    x * 2 ^ 126 = r * 2 ^ n

/-- A halving keeps the number and halves the bound's exponent. -/
theorem Rep.step {x : ℝ} {k b : Nat} {p : EReal × BitVec 32} (h : Rep x (k + k) b p) : Rep x k (b + k) (wstep k p) := by
  obtain ⟨r, n, rfl, h0, hk, hb, h1, hx⟩ := h
  have hp : (0 : ℝ) < 2 ^ k := by positivity
  have h1k : (1 : ℝ) ≤ 2 ^ k := one_le_pow₀ (by norm_num)
  unfold wstep
  by_cases hc : (2 : ℝ) ^ k ≤ r
  · refine ⟨r * (2 ^ k)⁻¹, n + k, ?_, by positivity, ?_, by omega, Or.inl ?_, ?_⟩
    · have hc' : ((2 ^ k : ℝ) : EReal) ≤ (r : EReal) := by exact_mod_cast hc
      simp only [if_pos hc', BitVec.ofNat_add, EReal.coe_mul]
    · rw [← div_eq_mul_inv, div_lt_iff₀ hp, ← pow_add]; exact hk
    · rw [← div_eq_mul_inv, le_div_iff₀ hp, one_mul]; exact hc
    · rw [hx, pow_add]; field_simp
  · refine ⟨r, n, ?_, h0, not_le.1 hc, by omega, h1, hx⟩
    have hc' : ¬ ((2 ^ k : ℝ) : EReal) ≤ (r : EReal) := by exact_mod_cast hc
    simp only [if_neg hc']

/-- Where the halvings start, for a number below `2^128`. -/
theorem rep_start {x : ℝ} (h0 : 0 ≤ x) (h : x < 2 ^ 128) : Rep x 128 126 (wstart (x : EReal)) := by
  unfold wstart
  by_cases hc : x < 1
  · have hc' : (x : EReal) < 1 := by exact_mod_cast hc
    refine ⟨x * 2 ^ 126, 0, ?_, by positivity, ?_, by omega, Or.inr rfl, by ring⟩
    · simp only [if_pos hc', EReal.coe_mul]
    · calc x * 2 ^ 126 < 1 * 2 ^ 126 := by gcongr
        _ < 2 ^ 128 := by norm_num
  · have hc' : ¬ (x : EReal) < 1 := by exact_mod_cast hc
    exact ⟨x, 126, by simp only [if_neg hc'], h0, h, le_refl _, Or.inl (not_lt.1 hc), rfl⟩

/-- What the halvings end with, for a number below `2^128`. -/
theorem rep_end {x : ℝ} (h0 : 0 ≤ x) (h : x < 2 ^ 128) : Rep x 1 253 (wend (x : EReal)) :=
  (((((((rep_start h0 h).step (k := 64)).step (k := 32)).step (k := 16)).step (k := 8)).step (k := 4)).step (k := 2)).step
    (k := 1)

/-- The word of a number below `2^128`. -/
theorem word_of_lt {x : ℝ} (h0 : 0 ≤ x) (h : x < 2 ^ 128) :
    ∃ (r : ℝ) (n : Nat), 0 ≤ r ∧ r < 2 ∧ n ≤ 253 ∧ (1 ≤ r ∨ n = 0) ∧ x * 2 ^ 126 = r * 2 ^ n ∧
      (word (x : EReal)).toNat = n * 2 ^ 23 + ⌊r * 2 ^ 23⌋₊ := by
  obtain ⟨r, n, hp, hr0, hr2, hn, h1, hx⟩ := rep_end h0 h
  have hr2' : r < 2 := by simpa using hr2
  refine ⟨r, n, hr0, hr2', hn, h1, hx, ?_⟩
  have hlt : ((r : ℝ) : EReal) < ((2 : ℝ) : EReal) := by exact_mod_cast hr2'
  have hnn : 0 ≤ r * 2 ^ 23 := by positivity
  have hfl : ⌊r * 2 ^ 23⌋₊ < 2 ^ 24 := by
    rw [Nat.floor_lt hnn]; push_cast; linarith
  have hf : Ideal.fptosi 32 ((r : EReal) * ((2 ^ 23 : ℝ) : EReal)) = BitVec.ofNat 32 ⌊r * 2 ^ 23⌋₊ := by
    rw [← EReal.coe_mul]
    show BitVec.ofInt 32 (max _ (min _ (if 0 ≤ r * 2 ^ 23 then ⌊r * 2 ^ 23⌋ else ⌈r * 2 ^ 23⌉))) = _
    rw [if_pos hnn, ← Int.natCast_floor_eq_floor hnn, ← BitVec.ofInt_natCast]
    congr 1
    have : ((⌊r * 2 ^ 23⌋₊ : Nat) : Int) < 2 ^ 24 := by exact_mod_cast hfl
    omega
  unfold word
  rw [hp]
  simp only [if_pos hlt, hf]
  rw [BitVec.toNat_add, BitVec.toNat_shiftLeft, BitVec.toNat_ofNat, BitVec.toNat_ofNat, Nat.shiftLeft_eq]
  omega

/-- A halving keeps a value of at least `2^(2k)` at least `2^k`. -/
theorem big_step {k : Nat} {p : EReal × BitVec 32} (h : ((2 ^ (k + k) : ℝ) : EReal) ≤ p.1) :
    ((2 ^ k : ℝ) : EReal) ≤ (wstep k p).1 := by
  have hp : (0 : ℝ) < 2 ^ k := by positivity
  have h1k : (1 : ℝ) ≤ 2 ^ k := one_le_pow₀ (by norm_num)
  have hk : ((2 ^ k : ℝ) : EReal) ≤ p.1 := le_trans (by
    have : (2 : ℝ) ^ k ≤ 2 ^ (k + k) := by rw [pow_add]; nlinarith
    exact_mod_cast this) h
  unfold wstep
  simp only [if_pos hk]
  calc ((2 ^ k : ℝ) : EReal) = ((2 ^ (k + k) : ℝ) : EReal) * (((2 ^ k)⁻¹ : ℝ) : EReal) := by
        rw [← EReal.coe_mul, pow_add]; congr 1; field_simp
    _ ≤ _ := mul_le_mul_of_nonneg_right h (by exact_mod_cast (inv_pos.2 hp).le)

/-- The word of a number of at least `2^128`, or of infinity, is the word of infinity. -/
theorem word_of_ge {x : EReal} (h : ((2 ^ 128 : ℝ) : EReal) ≤ x) : word x = 0x7F800000#32 := by
  have hs : ((2 ^ (64 + 64) : ℝ) : EReal) ≤ (wstart x).1 := by
    have : ¬ x < 1 := not_lt.2 (le_trans (by
      have : (1 : ℝ) ≤ 2 ^ 128 := by norm_num
      exact_mod_cast this) h)
    unfold wstart
    simpa only [if_neg this] using h
  have he : ((2 ^ 1 : ℝ) : EReal) ≤ (wend x).1 :=
    big_step (k := 1) (big_step (k := 2) (big_step (k := 4) (big_step (k := 8) (big_step (k := 16)
      (big_step (k := 32) (big_step (k := 64) hs))))))
  rw [pow_one] at he
  unfold word
  rw [if_neg (not_lt.2 he)]

/-- The word is at most the word of infinity, and equal to it exactly from `2^128` on. -/
theorem word_range {x : EReal} (h0 : 0 ≤ x) :
    (word x).toNat ≤ 0x7F800000 ∧ ((word x).toNat = 0x7F800000 ↔ ((2 ^ 128 : ℝ) : EReal) ≤ x) := by
  by_cases hx : ((2 ^ 128 : ℝ) : EReal) ≤ x
  · rw [word_of_ge hx]; exact ⟨by decide, fun _ => hx, fun _ => rfl⟩
  · induction x with
    | bot => exact absurd h0 (by simp)
    | top => exact absurd le_top hx
    | coe x =>
      have h0' : 0 ≤ x := by exact_mod_cast h0
      have hx' : x < 2 ^ 128 := by
        have := not_le.1 hx
        exact_mod_cast this
      obtain ⟨r, n, hr0, hr2, hn, -, -, hw⟩ := word_of_lt h0' hx'
      have hfl : ⌊r * 2 ^ 23⌋₊ < 2 ^ 24 := by
        rw [Nat.floor_lt (by positivity)]; push_cast; linarith
      have : (word (x : EReal)).toNat < 0x7F800000 := by rw [hw]; omega
      exact ⟨this.le, ⟨fun h => absurd h this.ne, fun h => absurd h hx⟩⟩

/-- The largest float below 448. -/
def pred448 : ℝ := 448 - 2⁻¹ ^ 15

/-- The comparison of `x` with `pred448 · 2^(j-126)`, on words: the word of `x` plus `0x200001` reaches
    exponent field `j + 10`. -/
theorem le_iff_word {x : EReal} (h0 : 0 ≤ x) {j : Nat} (hj : j < 246) :
    ((pred448 * (2 ^ j / 2 ^ 126) : ℝ) : EReal) ≤ x ↔ (j + 10) * 2 ^ 23 ≤ (word x).toNat + 0x200001 := by
  by_cases hx : ((2 ^ 128 : ℝ) : EReal) ≤ x
  · rw [word_of_ge hx]
    constructor
    · intro _; show (j + 10) * 2 ^ 23 ≤ 2139095040 + 0x200001; omega
    · intro _
      refine le_trans ?_ hx
      have : pred448 * (2 ^ j / 2 ^ 126) ≤ (2 : ℝ) ^ 128 := by
        have hj' : (2 : ℝ) ^ j ≤ 2 ^ 245 := pow_le_pow_right₀ (by norm_num) (by omega)
        unfold pred448
        rw [← mul_div_assoc, div_le_iff₀ (by positivity)]
        have : (448 - 2⁻¹ ^ 15 : ℝ) ≤ 2 ^ 9 := by norm_num
        calc (448 - 2⁻¹ ^ 15 : ℝ) * 2 ^ j ≤ 2 ^ 9 * 2 ^ 245 := by gcongr
          _ = 2 ^ 128 * 2 ^ 126 := by norm_num
      exact_mod_cast this
  · induction x with
    | bot => exact absurd h0 (by simp)
    | top => exact absurd le_top hx
    | coe x =>
      have h0' : 0 ≤ x := by exact_mod_cast h0
      have hx' : x < 2 ^ 128 := by
        have := not_le.1 hx
        exact_mod_cast this
      obtain ⟨r, n, hr0, hr2, hn, h1, hxe, hw⟩ := word_of_lt h0' hx'
      rw [hw]
      have hnn : 0 ≤ r * 2 ^ 23 := by positivity
      have key : pred448 * (2 ^ j / 2 ^ 126) ≤ x ↔ (14680063 : ℝ) * 2 ^ (j + 8) ≤ r * 2 ^ 23 * 2 ^ n := by
        rw [← mul_div_assoc, div_le_iff₀ (by positivity), hxe]
        have e1 : pred448 * 2 ^ j * 2 ^ 23 = (14680063 : ℝ) * 2 ^ (j + 8) := by
          unfold pred448; rw [pow_add]; ring
        have e2 : r * 2 ^ 23 * 2 ^ n = r * 2 ^ n * 2 ^ 23 := by ring
        rw [← e1, e2]
        exact (mul_le_mul_iff_left₀ (by positivity)).symm
      rw [EReal.coe_le_coe_iff, key]
      have hfl : ⌊r * 2 ^ 23⌋₊ < 2 ^ 24 := by
        rw [Nat.floor_lt hnn]; push_cast; linarith
      rcases Nat.lt_trichotomy n (j + 8) with hlt | heq | hgt
      · constructor
        · intro h
          exfalso
          have a1 : r * 2 ^ 23 * 2 ^ n < 2 ^ 24 * 2 ^ n := by
            have : r * 2 ^ 23 < 2 ^ 24 := by linarith
            gcongr
          have a2 : (2 : ℝ) ^ 24 * 2 ^ n = 2 ^ 23 * 2 ^ (n + 1) := by ring
          have a3 : (2 : ℝ) ^ (n + 1) ≤ 2 ^ (j + 8) := pow_le_pow_right₀ (by norm_num) (by omega)
          have a4 : (0 : ℝ) < 2 ^ (j + 8) := by positivity
          nlinarith
        · intro h; exfalso; omega
      · subst heq
        rw [mul_le_mul_iff_left₀ (by positivity : (0 : ℝ) < 2 ^ (j + 8))]
        have : (14680063 : ℝ) ≤ r * 2 ^ 23 ↔ 14680063 ≤ ⌊r * 2 ^ 23⌋₊ := by
          rw [Nat.le_floor_iff hnn]; norm_num
        rw [this]; omega
      · have hr1 : 1 ≤ r := by rcases h1 with h | h <;> [exact h; omega]
        have : 2 ^ 23 ≤ ⌊r * 2 ^ 23⌋₊ := by
          rw [Nat.le_floor_iff hnn]; push_cast; linarith
        constructor
        · intro _; omega
        · intro _
          have a3 : (2 : ℝ) ^ (j + 9) ≤ 2 ^ n := pow_le_pow_right₀ (by norm_num) (by omega)
          have a4 : (2 : ℝ) ^ (j + 9) = 2 * 2 ^ (j + 8) := by ring
          have a5 : (0 : ℝ) < 2 ^ (j + 8) := by positivity
          have a6 : (2 : ℝ) ^ 23 ≤ r * 2 ^ 23 := by linarith
          calc (14680063 : ℝ) * 2 ^ (j + 8) ≤ 2 ^ 23 * (2 * 2 ^ (j + 8)) := by linarith
            _ ≤ r * 2 ^ 23 * 2 ^ n := by rw [← a4]; gcongr

end Cert.Mine
-- ==== Proof.Expo.lean ====
/- THE EXPONENT OF A GROUP: what the kernel computes with integer operations from the word of the greatest
   absolute value, and what the reference computes by counting thresholds, are one exponent. -/
module

public import proofs.«01_k».proof.Proof.Word
public import Idealize.ShloMosaic.PureOps.Float

@[expose] public section

noncomputable section
namespace Cert.Mine

open Idealize.ShloMosaic

/-! ### The kernel's integers -/

/-- The word of the inverse scale, from the word `u` of the greatest absolute value. -/
def invWord (u : BitVec 32) : BitVec 32 :=
  if IntOp.andi (IntOp.cmpi .sge (u + 2097153#32) 83886080#32) (IntOp.cmpi .slt u 2139095040#32) = 1 then
    2130706432#32 - ((u + 2097153#32 - 67108864#32) &&& 4286578688#32)
  else 1065353216#32

/-- The stored exponent, from the word `u` of the greatest absolute value. -/
def stored (u : BitVec 32) : BitVec 32 := 254#32 - IntOp.shrsi .vector (invWord u) 23#32

/-- Clearing the low 23 bits. -/
theorem and_mask (v : BitVec 32) : v &&& 4286578688#32 = (v >>> 23) <<< 23 := by
  apply BitVec.eq_of_getLsbD_eq
  intro i hi
  simp only [BitVec.getLsbD_and, BitVec.getLsbD_shiftLeft, BitVec.getLsbD_ushiftRight]
  interval_cases i <;> simp

/-- A small word read as a signed integer. -/
theorem toInt_of_small {u : BitVec 32} (h : u.toNat < 2 ^ 31) : u.toInt = u.toNat :=
  BitVec.toInt_eq_toNat_of_lt (by omega)

/-- The conjunction of two bits. -/
theorem and_decide (A B : Prop) [Decidable A] [Decidable B] :
    BitVec.ofBool (decide A) &&& BitVec.ofBool (decide B) = 1 ↔ A ∧ B := by
  by_cases a : A <;> by_cases b : B <;> simp [a, b]

/-- The disjunction of two bits. -/
theorem or_decide (A B : Prop) [Decidable A] [Decidable B] :
    BitVec.ofBool (decide A) ||| BitVec.ofBool (decide B) = 1 ↔ A ∨ B := by
  by_cases a : A <;> by_cases b : B <;> simp [a, b]

/-- The kernel's range test, on natural numbers. -/
theorem ok_iff {u : BitVec 32} (hu : u.toNat ≤ 0x7F800000) :
    IntOp.andi (IntOp.cmpi .sge (u + 2097153#32) 83886080#32) (IntOp.cmpi .slt u 2139095040#32) = 1 ↔
      10 * 2 ^ 23 ≤ u.toNat + 0x200001 ∧ u.toNat < 0x7F800000 := by
  have ht : (u + 2097153#32).toNat = u.toNat + 2097153 := by
    rw [BitVec.toNat_add]; show (u.toNat + 2097153) % 2 ^ 32 = _; omega
  have h1 : (83886080#32).sle (u + 2097153#32) = decide (10 * 2 ^ 23 ≤ u.toNat + 0x200001) := by
    rw [BitVec.sle_eq_decide, toInt_of_small (u := u + 2097153#32) (by omega), ht]
    have : (83886080#32).toInt = 83886080 := by decide
    rw [this]
    exact decide_eq_decide.2 (by omega)
  have h2 : u.slt 2139095040#32 = decide (u.toNat < 0x7F800000) := by
    rw [BitVec.slt_eq_decide, toInt_of_small (u := u) (by omega)]
    have : (2139095040#32).toInt = 2139095040 := by decide
    rw [this]
    exact decide_eq_decide.2 (by omega)
  show BitVec.ofBool ((83886080#32).sle (u + 2097153#32)) &&& BitVec.ofBool (u.slt 2139095040#32) = 1 ↔ _
  rw [h1, h2]
  exact and_decide _ _

/-- The inverse scale's word in the range: exponent field `262 - q`, for `q` the exponent field of `u` after the
    rounding. -/
theorem invWord_ok {u : BitVec 32} (hu : u.toNat < 0x7F800000) (h : 10 * 2 ^ 23 ≤ u.toNat + 0x200001) :
    (invWord u).toNat = (262 - (u.toNat + 0x200001) / 2 ^ 23) * 2 ^ 23 := by
  unfold invWord
  rw [if_pos ((ok_iff hu.le).2 ⟨h, hu⟩), and_mask]
  have ht : (u + 2097153#32 - 67108864#32).toNat = u.toNat + 2097153 - 67108864 := by
    rw [BitVec.toNat_sub, BitVec.toNat_add]
    show (2 ^ 32 - 67108864 + (u.toNat + 2097153) % 2 ^ 32) % 2 ^ 32 = _; omega
  rw [BitVec.toNat_sub, BitVec.toNat_shiftLeft, BitVec.toNat_ushiftRight, ht, Nat.shiftLeft_eq,
    Nat.shiftRight_eq_div_pow]
  show (2 ^ 32 - ((u.toNat + 2097153 - 67108864) / 2 ^ 23 * 2 ^ 23) % 2 ^ 32 + 2130706432) % 2 ^ 32 = _
  omega

/-- The stored exponent in the range. -/
theorem stored_ok {u : BitVec 32} (hu : u.toNat < 0x7F800000) (h : 10 * 2 ^ 23 ≤ u.toNat + 0x200001) :
    stored u = BitVec.ofNat 32 ((u.toNat + 0x200001) / 2 ^ 23 - 8) := by
  have hi := invWord_ok hu h
  unfold stored
  have hs : IntOp.shrsi .vector (invWord u) 23#32 = invWord u >>> 23 := by
    show (if (23#32 : BitVec 32).toNat < 32 then (invWord u).sshiftRight 23 else _) = _
    rw [if_pos (by decide)]
    apply BitVec.sshiftRight_eq_of_msb_false
    rw [BitVec.msb_eq_false_iff_two_mul_lt, hi]; omega
  rw [hs]
  apply BitVec.eq_of_toNat_eq
  rw [BitVec.toNat_sub, BitVec.toNat_ushiftRight, hi, Nat.shiftRight_eq_div_pow, BitVec.toNat_ofNat,
    BitVec.toNat_ofNat]
  omega

/-- A word with an exponent field and nothing else is a power of two. -/
theorem ofBits_field {b : BitVec 32} {f : Nat} (hb : b.toNat = f * 2 ^ 23) (h0 : 0 < f) (h : f < 255) :
    Ideal.ofBits .f32 b = (((2 : ℝ) ^ ((f : Int) - 127) : ℝ) : EReal) := by
  have he : (b.extractLsb' 23 8).toNat = f := by
    rw [BitVec.extractLsb'_toNat, hb, Nat.shiftRight_eq_div_pow]; omega
  have hf : (b.extractLsb' 0 23).toNat = 0 := by
    rw [BitVec.extractLsb'_toNat, hb]; omega
  have hs : (b.extractLsb' 31 1 == 1#1) = false := by
    have : (b.extractLsb' 31 1).toNat = 0 := by
      rw [BitVec.extractLsb'_toNat, hb, Nat.shiftRight_eq_div_pow]; omega
    have : b.extractLsb' 31 1 = 0#1 := BitVec.eq_of_toNat_eq this
    rw [this]; rfl
  show Ideal.ieee 8 23 b = _
  unfold Ideal.ieee
  simp only [he, hf, hs]
  rw [if_neg (by omega), if_neg (by omega)]
  congr 1
  have : (2 : ℝ) ^ ((f : Int) - (2 ^ (8 - 1) - 1) - (23 : Nat)) = 2 ^ ((f : Int) - 127) * (2 ^ (23 : Nat))⁻¹ := by
    rw [zpow_sub₀ (by norm_num), zpow_natCast]; norm_num [div_eq_mul_inv]
  rw [this]; norm_num; ring

/-! ### The reference's integers -/

open Classical in
/-- How many of the 246 thresholds `x` reaches. -/
def count (x : EReal) : Nat :=
  (Finset.univ.filter fun j : Fin 246 => ((pred448 * (2 ^ j.val / 2 ^ 126) : ℝ) : EReal) ≤ x).card

/-- The reference's exponent before the range test. -/
def expo0 (x : EReal) : BitVec 32 := BitVec.ofNat 32 (count x) - 126#32

/-- The reference's exponent before the range test, as an integer. -/
theorem sub126_toInt {c : Nat} (hc : c ≤ 246) : (BitVec.ofNat 32 c - 126#32).toInt = (c : Int) - 126 := by
  have h : (126#32 : BitVec 32).toInt = 126 := by decide
  have h2 : (BitVec.ofNat 32 c).toNat = c := by rw [BitVec.toNat_ofNat]; omega
  rw [BitVec.toInt_sub, toInt_of_small (by omega), h2, h]
  exact Int.bmod_eq_of_le (by omega) (by omega)

/-- The negated exponent, as an integer. -/
theorem neg_sub126_toInt {c : Nat} (hc : c ≤ 246) : (0#32 - (BitVec.ofNat 32 c - 126#32)).toInt = 126 - (c : Int) := by
  have h : (0#32 : BitVec 32).toInt = 0 := by decide
  rw [BitVec.toInt_sub, sub126_toInt hc, h, Int.bmod_eq_of_le (by omega) (by omega)]
  omega

/-- The reference's exponent: zero where the count is zero or `x / 2` reaches `2^127`. -/
def expo (x : EReal) : BitVec 32 :=
  if IntOp.ori (IntOp.cmpi .slt (expo0 x) 4294967171#32)
      (Ideal.cmp .oge (x * ((2⁻¹ : ℝ) : EReal)) ((2 ^ 127 : ℝ) : EReal)) = 1 then 0#32 else expo0 x

/-- The count is the exponent field after the rounding, less nine. -/
theorem count_eq {x : EReal} (h0 : 0 ≤ x) : count x = (( word x).toNat + 0x200001) / 2 ^ 23 - 9 := by
  classical
  have hr := (word_range h0).1
  have h1 : count x = (Finset.univ.filter fun j : Fin 246 => j.val < ((word x).toNat + 0x200001) / 2 ^ 23 - 9).card := by
    unfold count
    congr 1
    apply Finset.filter_congr
    intro j _
    rw [le_iff_word h0 j.isLt, ← Nat.le_div_iff_mul_le (by norm_num)]
    omega
  rw [h1, Fin.card_filter_val_lt]
  omega

/-- Half of `x` reaches `2^127` exactly when `x` reaches `2^128`. -/
theorem half_iff {x : EReal} (h0 : 0 ≤ x) :
    ((2 ^ 127 : ℝ) : EReal) ≤ x * ((2⁻¹ : ℝ) : EReal) ↔ ((2 ^ 128 : ℝ) : EReal) ≤ x := by
  induction x with
  | bot => exact absurd h0 (by simp)
  | top =>
    rw [EReal.top_mul_coe_of_pos (by norm_num)]
    simp
  | coe x =>
    rw [← EReal.coe_mul, EReal.coe_le_coe_iff, EReal.coe_le_coe_iff]
    constructor <;> intro h <;> linarith

/-- The reference's range test, on natural numbers. -/
theorem out_iff {x : EReal} (h0 : 0 ≤ x) :
    IntOp.ori (IntOp.cmpi .slt (expo0 x) 4294967171#32)
      (Ideal.cmp .oge (x * ((2⁻¹ : ℝ) : EReal)) ((2 ^ 127 : ℝ) : EReal)) = 1 ↔
      ¬ (10 * 2 ^ 23 ≤ (word x).toNat + 0x200001 ∧ (word x).toNat < 0x7F800000) := by
  obtain ⟨hr, hr'⟩ := word_range h0
  have hc := count_eq h0
  have hcl : count x ≤ 246 := by omega
  have h1 : (expo0 x).slt 4294967171#32 = decide (count x = 0) := by
    rw [BitVec.slt_eq_decide]
    have h126 : (4294967171#32 : BitVec 32).toInt = -125 := by decide
    unfold expo0
    rw [sub126_toInt hcl, h126]
    exact decide_eq_decide.2 (by omega)
  have h2 : decide (((2 ^ 127 : ℝ) : EReal) ≤ x * ((2⁻¹ : ℝ) : EReal)) = decide ((word x).toNat = 0x7F800000) := by
    exact decide_eq_decide.2 (by rw [half_iff h0, hr'])
  show BitVec.ofBool ((expo0 x).slt 4294967171#32) |||
    BitVec.ofBool (decide (((2 ^ 127 : ℝ) : EReal) ≤ x * ((2⁻¹ : ℝ) : EReal))) = 1 ↔ _
  rw [h1, h2]
  clear h1 h2
  have : (¬ (10 * 2 ^ 23 ≤ (word x).toNat + 0x200001 ∧ (word x).toNat < 0x7F800000)) ↔
      (count x = 0 ∨ (word x).toNat = 0x7F800000) := by omega
  rw [this]
  exact or_decide _ _

end Cert.Mine
-- ==== Proof.Closed.lean ====
/- The two results in closed form, element by element, from the four arguments: the mathematics that both programs are
   shown to compute. -/
module

public import proofs.«01_k».proof.Proof.Expo
public import Idealize.ShloMosaic.Lib.Pointwise

@[expose] public section

noncomputable section

namespace Cert.Mine

open Idealize.ShloMosaic Idealize.ShloMosaic.Tactic

/-- A value clipped to the finite range of the 8-bit format, −448 to 448. -/
def clip (x : EReal) : EReal :=
  min (Ideal.ofBits .f32 0x43E00000#32) (max (Ideal.ofBits .f32 0xC3E00000#32) x)

variable (a0 : (⟨3, ![96, 256, 2048]⟩ : Shape).Idx → EReal) (a1 : (⟨3, ![96, 2, 16]⟩ : Shape).Idx → EReal)
  (a2 : (⟨3, ![96, 32, 2048]⟩ : Shape).Idx → EReal) (a3 : (⟨3, ![96, 256, 32]⟩ : Shape).Idx → EReal)

/-- The merged weight: code times block scale, plus the product of the two low-rank factors. -/
def mergedOf (b : Fin 96) (r : Fin 256) (c : Fin 2048) : EReal :=
  a0 (ix3 b r c) * a1 (ix3 b (⟨r.val / 128, by omega⟩ : Fin 2) (⟨c.val / 128, by omega⟩ : Fin 16))
    + ∑ k : Fin 32, a3 (ix3 b r k) * a2 (ix3 b k c)

/-- The greatest absolute value of a group of 32 columns. -/
def groupOf (b : Fin 96) (r : Fin 256) (g : Fin 64) : EReal :=
  Finset.univ.fold max (⊥ : EReal) fun k : Fin 32 =>
    FloatOps.absf (F := Ideal) (φ := .f32) (mergedOf a0 a1 a2 a3 b r ⟨32 * g.val + k.val, by omega⟩)

/-- The code of an element: scaled down by its group's power of two, and clipped. -/
def codeOf (b : Fin 96) (r : Fin 256) (c : Fin 2048) : EReal :=
  clip (mergedOf a0 a1 a2 a3 b r c
    * Ideal.exp2 ((((0#32 - expo (groupOf a0 a1 a2 a3 b r ⟨c.val / 32, by omega⟩)).toInt : ℤ) : ℝ) : EReal))

/-- The stored exponent of a group, biased by 127, in 32 bits. -/
def expoOf (b : Fin 96) (r : Fin 256) (g : Fin 64) : BitVec 32 :=
  expo (groupOf a0 a1 a2 a3 b r g) + 127#32

end Cert.Mine

end
-- ==== Proof.Agree.lean ====
/- THE TWO EXPONENTS AGREE: the kernel's integer arithmetic on the word and the reference's count of thresholds give
   the same stored exponent and the same inverse scale. -/
module

public import proofs.«01_k».proof.Proof.Expo

@[expose] public section

noncomputable section
namespace Cert.Mine

open Idealize.ShloMosaic

/-! ### They agree -/

/-- The inverse scale's word out of the range is that of one. -/
theorem invWord_out {u : BitVec 32} (hu : u.toNat ≤ 0x7F800000)
    (h : ¬ (10 * 2 ^ 23 ≤ u.toNat + 0x200001 ∧ u.toNat < 0x7F800000)) : invWord u = 1065353216#32 := by
  unfold invWord
  rw [if_neg (by rw [ok_iff hu]; exact h)]

/-- The stored exponent out of the range is that of one. -/
theorem stored_out {u : BitVec 32} (hu : u.toNat ≤ 0x7F800000)
    (h : ¬ (10 * 2 ^ 23 ≤ u.toNat + 0x200001 ∧ u.toNat < 0x7F800000)) : stored u = 0#32 + 127#32 := by
  unfold stored
  rw [invWord_out hu h]
  have : IntOp.shrsi .vector 1065353216#32 23#32 = (1065353216#32 : BitVec 32).sshiftRight 23 := rfl
  rw [this]
  decide

/-- The stored exponent `q - 8` is the count `q - 9`, less 126, plus 127. -/
theorem word_arith {q : Nat} (h : 10 ≤ q) :
    BitVec.ofNat 32 (q - 8) = BitVec.ofNat 32 (q - 9) - 126#32 + 127#32 := by
  obtain ⟨k, rfl⟩ := Nat.exists_eq_add_of_le h
  have h1 : 10 + k - 8 = k + 2 := by omega
  have h2 : 10 + k - 9 = k + 1 := by omega
  rw [h1, h2, BitVec.ofNat_add, BitVec.ofNat_add, BitVec.sub_eq_add_neg, BitVec.add_assoc, BitVec.add_assoc]
  congr 1

/-- The stored exponents are one. -/
theorem stored_eq {x : EReal} (h0 : 0 ≤ x) : stored (word x) = expo x + 127#32 := by
  obtain ⟨hr, -⟩ := word_range h0
  have hc := count_eq h0
  by_cases h : 10 * 2 ^ 23 ≤ (word x).toNat + 0x200001 ∧ (word x).toNat < 0x7F800000
  · unfold expo
    rw [if_neg (by rw [out_iff h0]; exact not_not.2 h), stored_ok h.2 h.1]
    unfold expo0
    rw [hc]
    exact word_arith (by omega)
  · unfold expo
    rw [if_pos ((out_iff h0).2 h)]
    exact stored_out hr h

/-- The inverse scales are one. -/
theorem inv_eq {x : EReal} (h0 : 0 ≤ x) :
    Ideal.ofBits .f32 (invWord (word x)) = Ideal.exp2 ((((0#32 - expo x).toInt : ℤ) : ℝ) : EReal) := by
  obtain ⟨hr, -⟩ := word_range h0
  have hc := count_eq h0
  have hexp : ∀ z : ℤ, Ideal.exp2 (((z : ℝ)) : EReal) = (((2 : ℝ) ^ z : ℝ) : EReal) := fun z => by
    show ((Real.rpow 2 (z : ℝ) : ℝ) : EReal) = _
    congr 1
    exact Real.rpow_intCast 2 z
  rw [hexp]
  by_cases h : 10 * 2 ^ 23 ≤ (word x).toNat + 0x200001 ∧ (word x).toNat < 0x7F800000
  · unfold expo
    rw [if_neg (by rw [out_iff h0]; exact not_not.2 h), ofBits_field (invWord_ok h.2 h.1) (by omega) (by omega)]
    unfold expo0
    rw [neg_sub126_toInt (by omega)]
    congr 2
    omega
  · unfold expo
    rw [if_pos ((out_iff h0).2 h)]
    rw [invWord_out hr h, ofBits_field (f := 127) (by decide) (by norm_num) (by norm_num)]
    norm_num

end Cert.Mine
-- ==== Proof.TileWord.lean ====
/- The words, exponents, multipliers and codes of one tile over the extended reals, index by index. -/
module

public import proofs.«01_k».proof.Proof.Closed
public import proofs.«01_k».proof.Proof.Tile
public import proofs.«01_k».proof.Proof.Agree
public import Idealize.ShloMosaic.Lib.Pointwise

@[expose] public section

noncomputable section

namespace Cert.Mine

open Idealize.ShloMosaic Idealize.ShloMosaic.Tactic Idealize.SL.Sem
open Cert.KernelIdeal Cert.KernelIdeal.Gen

/-- A power of two from its word. -/
theorem ofBits_pow (b : BitVec 32) (f : Nat) (v : ℝ) (hb : b.toNat = f * 2 ^ 23) (h0 : 0 < f) (h : f < 255)
    (hv : (2 : ℝ) ^ f / 2 ^ 127 = v) : Ideal.ofBits .f32 b = ((v : ℝ) : EReal) := by
  rw [ofBits_field hb h0 h, ← hv, zpow_sub₀ (by norm_num), zpow_natCast]
  rfl

/-- Before the halvings, the float. -/
theorem startY_apply (x : FVec Ideal S8x128 .f32) (j : S8x128.Idx) : startY x j = (wstart (x j)).1 := by
  have e : Ideal.ofBits .f32 0x7E800000#32 = ((2 ^ 126 : ℝ) : EReal) := ofBits_pow _ 253 _ rfl (by decide) (by decide) (by norm_num)
  pointwise [startY, lane, e]
  rfl

/-- Before the halvings, the exponent. -/
theorem startE_apply (x : FVec Ideal S8x128 .f32) (j : S8x128.Idx) : startE x j = (wstart (x j)).2 := by
  pointwise [startE, lane]
  rfl

/-- One halving of the float. -/
theorem stepY_apply (b c : BitVec 32) (k : Nat) (hb : Ideal.ofBits .f32 b = ((2 ^ k : ℝ) : EReal))
    (hc : Ideal.ofBits .f32 c = (((2 ^ k)⁻¹ : ℝ) : EReal)) (y : FVec Ideal S8x128 .f32) (j : S8x128.Idx) (p : EReal × BitVec 32)
    (hy : y j = p.1) : stepY b c y j = (wstep k p).1 := by
  pointwise [stepY, lane, hb, hc]
  rw [hy]
  rfl

/-- One halving of the exponent. -/
theorem stepE_apply (b : BitVec 32) (k : Nat) (hb : Ideal.ofBits .f32 b = ((2 ^ k : ℝ) : EReal))
    (y : FVec Ideal S8x128 .f32) (e : IVec S8x128 32) (j : S8x128.Idx) (p : EReal × BitVec 32)
    (hy : y j = p.1) (he : e j = p.2) : stepE b (BitVec.ofNat 32 k) y e j = (wstep k p).2 := by
  pointwise [stepE, lane, hb]
  rw [hy, he]
  rfl

/-- The word of every element is the word of the element. -/
theorem wordV_apply (x : FVec Ideal S8x128 .f32) (j : S8x128.Idx) : wordV x j = word (x j) := by
  have b64 : Ideal.ofBits .f32 0x5F800000#32 = ((2 ^ 64 : ℝ) : EReal) := ofBits_pow _ 191 _ rfl (by decide) (by decide) (by norm_num)
  have b32 : Ideal.ofBits .f32 0x4F800000#32 = ((2 ^ 32 : ℝ) : EReal) := ofBits_pow _ 159 _ rfl (by decide) (by decide) (by norm_num)
  have b16 : Ideal.ofBits .f32 0x47800000#32 = ((2 ^ 16 : ℝ) : EReal) := ofBits_pow _ 143 _ rfl (by decide) (by decide) (by norm_num)
  have b8 : Ideal.ofBits .f32 0x43800000#32 = ((2 ^ 8 : ℝ) : EReal) := ofBits_pow _ 135 _ rfl (by decide) (by decide) (by norm_num)
  have b4 : Ideal.ofBits .f32 0x41800000#32 = ((2 ^ 4 : ℝ) : EReal) := ofBits_pow _ 131 _ rfl (by decide) (by decide) (by norm_num)
  have b2 : Ideal.ofBits .f32 0x40800000#32 = ((2 ^ 2 : ℝ) : EReal) := ofBits_pow _ 129 _ rfl (by decide) (by decide) (by norm_num)
  have b1 : Ideal.ofBits .f32 0x40000000#32 = ((2 ^ 1 : ℝ) : EReal) := ofBits_pow _ 128 _ rfl (by decide) (by decide) (by norm_num)
  have c64 : Ideal.ofBits .f32 0x1F800000#32 = (((2 ^ 64)⁻¹ : ℝ) : EReal) := ofBits_pow _ 63 _ rfl (by decide) (by decide) (by norm_num)
  have c32 : Ideal.ofBits .f32 0x2F800000#32 = (((2 ^ 32)⁻¹ : ℝ) : EReal) := ofBits_pow _ 95 _ rfl (by decide) (by decide) (by norm_num)
  have c16 : Ideal.ofBits .f32 0x37800000#32 = (((2 ^ 16)⁻¹ : ℝ) : EReal) := ofBits_pow _ 111 _ rfl (by decide) (by decide) (by norm_num)
  have c8 : Ideal.ofBits .f32 0x3B800000#32 = (((2 ^ 8)⁻¹ : ℝ) : EReal) := ofBits_pow _ 119 _ rfl (by decide) (by decide) (by norm_num)
  have c4 : Ideal.ofBits .f32 0x3D800000#32 = (((2 ^ 4)⁻¹ : ℝ) : EReal) := ofBits_pow _ 123 _ rfl (by decide) (by decide) (by norm_num)
  have c2 : Ideal.ofBits .f32 0x3E800000#32 = (((2 ^ 2)⁻¹ : ℝ) : EReal) := ofBits_pow _ 125 _ rfl (by decide) (by decide) (by norm_num)
  have c1 : Ideal.ofBits .f32 0x3F000000#32 = (((2 ^ 1)⁻¹ : ℝ) : EReal) := ofBits_pow _ 126 _ rfl (by decide) (by decide) (by norm_num)
  have m : Ideal.ofBits .f32 0x4B000000#32 = ((2 ^ 23 : ℝ) : EReal) := ofBits_pow _ 150 _ rfl (by decide) (by decide) (by norm_num)
  have hy0 := startY_apply x j
  have he0 := startE_apply x j
  have hy1 : y1 x j = _ := stepY_apply _ _ 64 b64 c64 (startY x) j _ hy0
  have he1 : e1 x j = _ := stepE_apply _ 64 b64 (startY x) (startE x) j _ hy0 he0
  have hy2 : y2 x j = _ := stepY_apply _ _ 32 b32 c32 (y1 x) j _ hy1
  have he2 : e2 x j = _ := stepE_apply _ 32 b32 (y1 x) (e1 x) j _ hy1 he1
  have hy3 : y3 x j = _ := stepY_apply _ _ 16 b16 c16 (y2 x) j _ hy2
  have he3 : e3 x j = _ := stepE_apply _ 16 b16 (y2 x) (e2 x) j _ hy2 he2
  have hy4 : y4 x j = _ := stepY_apply _ _ 8 b8 c8 (y3 x) j _ hy3
  have he4 : e4 x j = _ := stepE_apply _ 8 b8 (y3 x) (e3 x) j _ hy3 he3
  have hy5 : y5 x j = _ := stepY_apply _ _ 4 b4 c4 (y4 x) j _ hy4
  have he5 : e5 x j = _ := stepE_apply _ 4 b4 (y4 x) (e4 x) j _ hy4 he4
  have hy6 : y6 x j = _ := stepY_apply _ _ 2 b2 c2 (y5 x) j _ hy5
  have he6 : e6 x j = _ := stepE_apply _ 2 b2 (y5 x) (e5 x) j _ hy5 he5
  have hy7 : y7 x j = (wend (x j)).1 := stepY_apply _ _ 1 b1 c1 (y6 x) j _ hy6
  have he7 : e7 x j = (wend (x j)).2 := stepE_apply _ 1 b1 (y6 x) (e6 x) j _ hy6 he6
  have t : Ideal.ofBits .f32 0x40000000#32 = ((2 : ℝ) : EReal) := ofBits_pow _ 128 _ rfl (by decide) (by decide) (by norm_num)
  pointwise [wordV, lane, m, t]
  rw [hy7, he7]
  rfl

/-- The multiplier's word of every element. -/
theorem inverse_apply (u : IVec S8x128 32) (j : S8x128.Idx) : inverse u j = invWord (u j) := by
  pointwise [inverse]
  rfl

/-- The multipliers a tile keeps. -/
theorem multipliers_apply (u : IVec S8x128 32) (a : Fin 8) (l : Fin 128) :
    (multipliers u : FVec Ideal S1x8x128 .f32) (ix3 0 a l) = Ideal.ofBits .f32 (invWord (u (ix2 a l))) := by
  pointwise [multipliers, inverse_apply]

/-- The exponents a tile keeps. -/
theorem storedV_apply (u : IVec S8x128 32) (a : Fin 8) (l : Fin 128) :
    storedV u (ix3 0 a l) = stored (u (ix2 a l)) := by
  pointwise [storedV, inverse_apply]
  rfl

/-- One vector's clipped elements. -/
theorem clipped_apply (x : FVec Ideal S8x128 .f32) (iv : Vec Ideal S1x128 .f32) (a : Fin 8) (l : Fin 128) :
    clipped x iv (ix2 a l) = clip ((x (ix2 a l) : EReal) * iv (ix2 0 l)) := by
  pointwise [clipped, lane]
  rfl

/-- The codes of a tile: row `r` and column `c`. -/
theorem codes_apply (xs : Fin 16 → FVec Ideal S8x128 .f32) (iv : Fin 4 → Vec Ideal S1x128 .f32) (r c : Fin 128) :
    codes xs iv (ix3 0 r c)
      = clip ((xs ⟨c.val / 8, by omega⟩ (ix2 (⟨c.val % 8, by omega⟩ : Fin 8) r) : EReal) * iv ⟨c.val / 32, by omega⟩ (ix2 0 r)) := by
  have h := concatenate_ofFn_apply (t := S128x128) (s₁ := S8x128) 0 (fun v : Fin 16 => clipped (xs v) (iv ⟨v.val / 4, by omega⟩))
    concatenates_S8x128_S8x128_S8x128_S8x128_S8x128_S8x128_S8x128_S8x128_S8x128_S8x128_S8x128_S8x128_S8x128_S8x128_S8x128_S8x128_S128x128_d0
    rfl 8 rfl (ix2 c r) ⟨c.val / 8, by omega⟩ rfl (ix2 (⟨c.val % 8, by omega⟩ : Fin 8) r) rfl
    (fun b hb => by fin_cases b <;> first | exact absurd rfl hb | rfl)
  have e : c.val / 8 / 4 = c.val / 32 := by omega
  have key : ∀ z : FVec Ideal S128x128 .f32, shapeCast S1x128x128 (transpose S128x128 [1, 0] (truncf .fp8e4m3 z bitsLt_fp8e4m3_f32)
      transposes_S128x128_p1_0_S128x128) shapeCasts_S128x128_S1x128x128 (ix3 0 r c) = z (ix2 c r) := by
    intro z
    pointwise []
  refine (key _).trans (h.trans ?_)
  rw [clipped_apply]
  simp only [e]

end Cert.Mine

end
-- ==== Proof.Loads.lean ====
/- What a tile loads, index by index: the blocks' elements, and the buffers' elements as the tiles wrote them. -/
module

public import proofs.«01_k».proof.Proof.Pieces
public import proofs.«01_k».proof.Proof.TileValue
public import proofs.«01_k».proof.Proof.TileMax
public import proofs.«01_k».proof.Proof.TileWord

@[expose] public section

noncomputable section

namespace Cert.Mine

open Idealize.ShloMosaic Idealize.ShloMosaic.Tactic Idealize.SL.Sem
open Cert.KernelIdeal Cert.KernelIdeal.Gen

section

variable (i : grid0.Coords) (arg1 : Memref sig .tc .smem S2x16x96 .f32) (harg1 : arg1.IsWhole)
  (arg2 : Memref sig .tc .vmem S1x256x2048 .fp8e4m3) (harg2 : arg2.IsWhole)
  (arg3 : Memref sig .tc .vmem S1x32x2048 .bf16) (harg3 : arg3.IsWhole)
  (arg4 : Memref sig .tc .vmem S1x32x256 .bf16) (harg4 : arg4.IsWhole)
  (arg7 : Memref sig .tc .vmem S128x512 .bf16) (arg8 : Memref sig .tc .vmem S32x8x128 .f32)
  (arg9 : Memref sig .tc .vmem S2x128x128 .i32)
  (x0 : Vec Ideal S2x16x96 .f32) (x1 : Vec Ideal S1x256x2048 .fp8e4m3) (x2 : Vec Ideal S1x32x2048 .bf16) (x3 : Vec Ideal S1x32x256 .bf16)

/-- Column block `q` of the codes, element by element. -/
theorem colLoad_apply (q : Nat) (hq : q < 16) (r : Fin 256) (c : Fin 128) :
    colLoad arg2 harg2 x1 q hq (ix3 0 r c) = x1 (ix3 0 r ⟨128 * q + c.val, by omega⟩) := by
  unfold colLoad
  rw [View.readAt_apply, harg2.read_unread]
  congr 1
  idx_ext

/-- The scale of a row block and a column block. -/
theorem scaleLoad_eq (p q : Nat) (hp : p < 2) (hq : q < 16) :
    scaleLoad i arg1 harg1 x0 p q hp hq = x0 (ix3 (⟨p, hp⟩ : Fin 2) (⟨q, hq⟩ : Fin 16) (⟨(i 0).val, (i 0).isLt⟩ : Fin 96)) := by
  have e := congrFun (k0_off1_eq i) 2
  have e' : (Scalar.indexCast (BitVec.ofNat 32 (i 0).val)).toNat = (i 0).val := e
  unfold scaleLoad
  rw [View.readAt_apply, harg1.read_unread]
  congr 1
  idx_ext

/-- Column block `q` of the low-rank `A`, element by element. -/
theorem lowRankLoad_apply (q : Nat) (hq : q < 16) (k : Fin 32) (c : Fin 128) :
    lowRankLoad arg3 harg3 x2 q hq (ix3 0 k c) = x2 (ix3 0 k ⟨128 * q + c.val, by omega⟩) := by
  unfold lowRankLoad
  rw [View.readAt_apply, harg3.read_unread]
  congr 1
  idx_ext

/-- The transposed low-rank `B`, element by element. -/
theorem bLoad_apply (k : Fin 32) (r : Fin 256) : bLoad arg4 harg4 x3 (ix3 0 k r) = x3 (ix3 0 k r) := by
  unfold bLoad
  rw [View.readAt_apply, harg4.read_unread]
  congr 1
  idx_ext

/-- One half of the transposed low-rank `A`: column `c` of column block `8 k + t / 32`, row `t % 32`. -/
theorem atHalf_apply (k : Nat) (hk : k < 2) (c : Fin 128) (t : Fin 256) :
    (atHalf arg3 harg3 x2 k hk (ix2 c t) : EReal)
      = x2 (ix3 0 (⟨t.val % 32, by omega⟩ : Fin 32) (⟨128 * (8 * k + t.val / 32) + c.val, by omega⟩ : Fin 2048)) := by
  have h := concatenate_ofFn_apply (t := S256x128) (s₁ := S32x128) 0
    (fun j : Fin 8 => shapeCast S32x128 (lowRankLoad arg3 harg3 x2 (8 * k + j.val) (by omega)) shapeCasts_S1x32x128_S32x128)
    concatenates_S32x128_S32x128_S32x128_S32x128_S32x128_S32x128_S32x128_S32x128_S256x128_d0
    rfl 32 rfl (ix2 t c) ⟨t.val / 32, by omega⟩ rfl (ix2 (⟨t.val % 32, by omega⟩ : Fin 32) c) rfl
    (fun b hb => by fin_cases b <;> first | exact absurd rfl hb | rfl)
  have key : ∀ z : FVec Ideal S256x128 .bf16, (shapeCast S128x256 (truncf .bf16
      (matmul dot_S128x128_S256x128_S128x256_1_1_0_0_n_n none k0_pay3 z (constant S128x256 .f32 0x00000000#32)) bitsLt_bf16_f32)
      shapeCasts_S128x256_S128x256 (ix2 c t) : EReal) = z (ix2 t c) := by
    intro z
    pointwise [eye_apply]
    rw [Finset.sum_eq_single c]
    · simp
    · intro x _ hx
      simp [hx]
    · simp
  refine (key _).trans (h.trans ?_)
  pointwise [lowRankLoad_apply]

/-- The transposed low-rank `A`, element by element. -/
def atValue (j : S128x512.Idx) : EReal :=
  x2 (ix3 0 (⟨(j 1).val % 32, Nat.mod_lt _ (by decide)⟩ : Fin 32)
    (⟨128 * ((j 1).val / 32) + (j 0).val, by
      have h0 : (j 0).val < 128 := (j 0).isLt
      have h1 : (j 1).val < 512 := (j 1).isLt
      omega⟩ : Fin 2048))

/-- One half writes the transposed low-rank `A`. -/
theorem atHalf_value (k : Nat) (hk : k < 2) (z : S128x256.Idx) :
    (atHalf arg3 harg3 x2 k hk z : EReal)
      = atValue x2 ((Rect.unit (s := S128x512) ![0, 256 * k] S128x256.size (inb_half k hk)).emb z) := by
  obtain ⟨c, t, rfl⟩ : ∃ (c : Fin 128) (t : Fin 256), z = ix2 c t := ⟨z 0, z 1, by idx_ext⟩
  rw [atHalf_apply]
  unfold atValue
  congr 1
  have h0 : (((Rect.unit (s := S128x512) ![0, 256 * k] S128x256.size (inb_half k hk)).emb (ix2 c t)) 0).val = 0 + 1 * c.val := rfl
  have h1 : (((Rect.unit (s := S128x512) ![0, 256 * k] S128x256.size (inb_half k hk)).emb (ix2 c t)) 1).val = 256 * k + 1 * t.val := rfl
  simp only [h0, h1]
  congr 1
  · exact Fin.ext (by simp only; omega)
  · exact Fin.ext (by simp only; omega)

/-- Four column blocks of the transposed low-rank `A`. -/
theorem atLoad_apply (k : Nat) (hk : k < 4) (c t : Fin 128) :
    (atLoad arg3 harg3 arg7 x2 k hk (ix2 c t) : EReal)
      = x2 (ix3 0 (⟨t.val % 32, by omega⟩ : Fin 32) (⟨128 * (4 * k + t.val / 32) + c.val, by omega⟩ : Fin 2048)) := by
  unfold atLoad
  rw [View.readCov_eq_canon']
  refine (View.canon_apply_of_pieces (Val := Elt Ideal) (atValue x2) (atPieces arg3 harg3 x2) ?_ _ ?_).trans ?_
  · intro p hp x
    rcases List.mem_cons.1 hp with rfl | hp
    · exact atHalf_value arg3 harg3 x2 1 (by decide) x
    · rcases List.mem_singleton.1 hp with rfl
      exact atHalf_value arg3 harg3 x2 0 (by decide) x
  · by_cases h : k < 2
    · refine ⟨_, List.mem_cons_of_mem _ (List.mem_singleton_self _), (Rect.mem_set_unit (inb := inb_half 0 (by decide))).2 fun a => ?_⟩
      fin_cases a
      · show 0 ≤ 0 + 1 * c.val ∧ 0 + 1 * c.val < 0 + 128
        omega
      · show 256 * 0 ≤ 128 * k + 1 * t.val ∧ 128 * k + 1 * t.val < 256 * 0 + 256
        omega
    · refine ⟨_, List.mem_cons_self, (Rect.mem_set_unit (inb := inb_half 1 (by decide))).2 fun a => ?_⟩
      fin_cases a
      · show 0 ≤ 0 + 1 * c.val ∧ 0 + 1 * c.val < 0 + 128
        omega
      · show 256 * 1 ≤ 128 * k + 1 * t.val ∧ 128 * k + 1 * t.val < 256 * 1 + 256
        omega
  · unfold atValue
    congr 1
    have h0 : (((Rect.unit (s := S128x512) ![0, 128 * k] S128x128.size (inb_quarter k hk)).toLoadRect.idx (ix2 c t)) 0).val = 0 + 1 * c.val := rfl
    have h1 : (((Rect.unit (s := S128x512) ![0, 128 * k] S128x128.size (inb_quarter k hk)).toLoadRect.idx (ix2 c t)) 1).val = 128 * k + 1 * t.val := rfl
    simp only [h0, h1]
    congr 1
    · exact Fin.ext (by simp only; omega)
    · exact Fin.ext (by simp only; omega)

/-- Dropping the leading unit axis of one row keeps the lane. -/
theorem reshape_row (h : Shape.numel S1x128 = Shape.numel ⟨3, ![1, 1, 128]⟩) (l : Fin 128) :
    Shape.reshapeEquiv h (ix2 0 l) = ix3 0 0 l := by
  pointwise []

/-- Row `2 g` of the multipliers. -/
theorem rowLoad_apply (n g : Nat) (hg : g < 4) (l : Fin 128) :
    (rowLoad i arg1 harg1 arg2 harg2 arg3 harg3 arg4 harg4 arg7 arg8 x0 x1 x2 x3 n g hg (ix2 0 l) : EReal)
      = Ideal.ofBits .f32 (invWord (tileWord i arg1 harg1 arg2 harg2 arg3 harg3 arg4 harg4 arg7 x0 x1 x2 x3 n (ix2 (⟨2 * g, by omega⟩ : Fin 8) l))) := by
  unfold rowLoad
  rw [LoadRect.valAlong, View.readCov_eq_canon']
  refine (congrArg (View.canon (Val := Elt Ideal) _) (Rect.idx_withinL (Rect.unit (s := S32x8x128) ![n % 32, 0, 0] S1x8x128.size (inb_mult n))
    ((rowRect g hg).toLoadRect.consLift ![1, 8, 128] (by decide) (by decide)) (fun _ => rfl) _)).trans ?_
  refine (View.canon_cons_emb (Val := Elt Ideal) _ _ _ _).trans ?_
  refine Eq.trans ?_ (multipliers_apply _ _ _)
  refine congrArg (multipliers (F := Ideal) _) ?_
  refine (congrArg (((rowRect g hg).toLoadRect.consLift ![1, 8, 128] (by decide) (by decide)).idx) (reshape_row _ l)).trans ?_
  funext a
  apply Fin.ext
  fin_cases a
  · rfl
  · show 2 * g + 1 * 0 = 2 * g
    omega
  · show 0 + 1 * l.val = l.val
    omega

end

end Cert.Mine

end
-- ==== Proof.Found.lean ====
/- The run's own account of what the body stores is the tile-by-tile one: each of the two lists of pieces it found is the
   list of `Pieces.lean`, piece by piece the same operations. -/
module

public import proofs.«01_k».proof.Proof.Pieces

@[expose] public section

noncomputable section

namespace Cert.Mine

open Idealize.ShloMosaic Idealize.ShloMosaic.Tactic Idealize.SL.Sem
open Cert.KernelIdeal Cert.KernelIdeal.Gen

variable {F : FTy → Type} [FloatOps F]

section

variable (c : Dev nD) (i : grid0.Coords) (arg1 : Memref sig .tc .smem S2x16x96 .f32) (harg1 : arg1.IsWhole)
  (arg2 : Memref sig .tc .vmem S1x256x2048 .fp8e4m3) (harg2 : arg2.IsWhole)
  (arg3 : Memref sig .tc .vmem S1x32x2048 .bf16) (harg3 : arg3.IsWhole)
  (arg4 : Memref sig .tc .vmem S1x32x256 .bf16) (harg4 : arg4.IsWhole)
  (arg5 : Memref sig .tc .vmem S1x256x2048 .fp8e4m3) (harg5 : arg5.IsWhole)
  (arg6 : Memref sig .tc .vmem S1x64x256 .i8) (harg6 : arg6.IsWhole)
  (arg7 : Memref sig .tc .vmem S128x512 .bf16) (harg7 : arg7.IsWhole)
  (arg8 : Memref sig .tc .vmem S32x8x128 .f32) (harg8 : arg8.IsWhole)
  (arg9 : Memref sig .tc .vmem S2x128x128 .i32) (harg9 : arg9.IsWhole)
  (x0 : Vec F S2x16x96 .f32) (x1 : Vec F S1x256x2048 .fp8e4m3) (x2 : Vec F S1x32x2048 .bf16) (x3 : Vec F S1x32x256 .bf16)

/-- The codes' pieces are the tiles' codes. -/
theorem codes_found :
    (kernelRun0_A c i arg1 harg1 arg2 harg2 arg3 harg3 arg4 harg4 arg5 harg5 arg6 harg6 arg7 harg7 arg8 harg8 arg9 harg9
      x0 x1 x2 x3).1 = codePieces i arg1 harg1 arg2 harg2 arg3 harg3 arg4 harg4 arg7 arg8 x0 x1 x2 x3 32 := by
  sl_kernel_rfl

/-- The exponents' pieces are the tiles' exponents. -/
theorem exps_found :
    (kernelRun0_A c i arg1 harg1 arg2 harg2 arg3 harg3 arg4 harg4 arg5 harg5 arg6 harg6 arg7 harg7 arg8 harg8 arg9 harg9
      x0 x1 x2 x3).2.1 = expPieces i arg1 harg1 arg2 harg2 arg3 harg3 arg4 harg4 arg7 arg9 x0 x1 x2 x3 := by
  sl_kernel_rfl

end

end Cert.Mine

end
-- ==== Proof.Block.lean ====
/- What one grid point leaves in its two blocks, index by index: the codes and the exponents as functions of the point's
   input blocks. -/
module

public import proofs.«01_k».proof.Proof.Loads
public import proofs.«01_k».proof.Proof.Found
public import proofs.«01_k».proof.Proof.Gen.KernelIdeal.Frame

@[expose] public section

noncomputable section

namespace Cert.Mine

open Idealize.ShloMosaic Idealize.ShloMosaic.Tactic Idealize.SL.Sem
open Cert.KernelIdeal Cert.KernelIdeal.Gen

section

variable (b : Fin 96) (x0 : Vec Ideal S2x16x96 .f32) (x1 : Vec Ideal S1x256x2048 .fp8e4m3) (x2 : Vec Ideal S1x32x2048 .bf16)
  (x3 : Vec Ideal S1x32x256 .bf16)

/-- The merged element in row `r` and column `c` of the point's block. -/
def merged (r : Fin 256) (c : Fin 2048) : EReal :=
  (x1 (ix3 0 r c) : EReal) * x0 (ix3 (⟨r.val / 128, by omega⟩ : Fin 2) (⟨c.val / 128, by omega⟩ : Fin 16) b)
    + ∑ k : Fin 32, (x3 (ix3 0 k r) : EReal) * x2 (ix3 0 k c)

/-- The greatest absolute value of a group of 32 columns. -/
def groupAbs (r : Fin 256) (g : Fin 64) : EReal :=
  Finset.univ.fold max (⊥ : EReal) fun k : Fin 32 =>
    FloatOps.absf (F := Ideal) (φ := .f32) (merged b x0 x1 x2 x3 r ⟨32 * g.val + k.val, by omega⟩)

/-- A group's greatest absolute value is not negative. -/
theorem groupAbs_nonneg (r : Fin 256) (g : Fin 64) : 0 ≤ groupAbs b x0 x1 x2 x3 r g := by
  refine le_trans ?_ (((Finset.fold_max_le _).1 (le_refl (groupAbs b x0 x1 x2 x3 r g))).2 0 (Finset.mem_univ _))
  show (0 : EReal) ≤ max _ _
  generalize merged b x0 x1 x2 x3 r _ = z
  rcases le_total 0 z with h | h
  · exact le_trans h (le_max_left _ _)
  · exact le_trans (by simpa using EReal.neg_le_neg_iff.2 h) (le_max_right _ _)

/-- The code in row `r` and column `c`. -/
def codeAt (r : Fin 256) (c : Fin 2048) : EReal :=
  clip (merged b x0 x1 x2 x3 r c
    * Ideal.exp2 ((((0#32 - expo (groupAbs b x0 x1 x2 x3 r ⟨c.val / 32, by omega⟩)).toInt : ℤ) : ℝ) : EReal))

/-- The exponent of a group, as it is stored. -/
def expoAt (r : Fin 256) (g : Fin 64) : BitVec 32 := expo (groupAbs b x0 x1 x2 x3 r g) + 127#32

end

section

variable (i : grid0.Coords) (arg1 : Memref sig .tc .smem S2x16x96 .f32) (harg1 : arg1.IsWhole)
  (arg2 : Memref sig .tc .vmem S1x256x2048 .fp8e4m3) (harg2 : arg2.IsWhole)
  (arg3 : Memref sig .tc .vmem S1x32x2048 .bf16) (harg3 : arg3.IsWhole)
  (arg4 : Memref sig .tc .vmem S1x32x256 .bf16) (harg4 : arg4.IsWhole)
  (arg7 : Memref sig .tc .vmem S128x512 .bf16) (arg8 : Memref sig .tc .vmem S32x8x128 .f32)
  (arg9 : Memref sig .tc .vmem S2x128x128 .i32)
  (x0 : Vec Ideal S2x16x96 .f32) (x1 : Vec Ideal S1x256x2048 .fp8e4m3) (x2 : Vec Ideal S1x32x2048 .bf16) (x3 : Vec Ideal S1x32x256 .bf16)

/-- The grid point's number. -/
abbrev pointNo : Fin 96 := ⟨(i 0).val, (i 0).isLt⟩

/-- The merged block of tile `n` holds the merged elements. -/
theorem tileProduct_apply (n : Nat) (c : Fin 128) (r : Fin 256) :
    (tileProduct i arg1 harg1 arg2 harg2 arg3 harg3 arg4 harg4 arg7 x0 x1 x2 x3 n (ix2 c r) : EReal)
      = merged (pointNo i) x0 x1 x2 x3 r ⟨128 * tq n + c.val, by have := tq_lt n; omega⟩ := by
  have hq := tq_lt n
  unfold tileProduct merged
  rw [product_apply, colLoad_apply, scaleLoad_eq, scaleLoad_eq]
  have hr := r.isLt
  have hc := c.isLt
  have e1 : (128 * tq n + c.val) / 128 = tq n := by omega
  congr 1
  · congr 1
    simp only [e1]
    split
    · have e : r.val / 128 = 0 := by omega
      simp only [e]
    · have e : r.val / 128 = 1 := by omega
      simp only [e]
  · refine Finset.sum_congr rfl fun k _ => ?_
    have hk := k.isLt
    have e2 : (32 * (tq n % 4) + k.val) % 32 = k.val := by omega
    have e3 : 128 * (4 * (tq n / 4) + (32 * (tq n % 4) + k.val) / 32) + c.val = 128 * tq n + c.val := by omega
    rw [atLoad_apply, bLoad_apply, mul_comm]
    simp only [e2, e3]

/-- The vectors of tile `n`: row `s` and lane `l` of vector `v`. -/
theorem tileVregs_apply (n : Nat) (v : Fin 16) (s : Fin 8) (l : Fin 128) :
    (tileVregs i arg1 harg1 arg2 harg2 arg3 harg3 arg4 harg4 arg7 x0 x1 x2 x3 n v (ix2 s l) : EReal)
      = merged (pointNo i) x0 x1 x2 x3 ⟨128 * tp n + l.val, by have := tp_lt n; omega⟩
          ⟨128 * tq n + (8 * v.val + s.val), by have := tq_lt n; omega⟩ := by
  have hp := tp_lt n
  refine Eq.trans ?_ (tileProduct_apply i arg1 harg1 arg2 harg2 arg3 harg3 arg4 harg4 arg7 x0 x1 x2 x3 n
    ⟨8 * v.val + s.val, by omega⟩ ⟨128 * tp n + l.val, by omega⟩)
  unfold tileVregs vreg
  pointwise []

/-- The words of tile `n`. -/
theorem tileWord_apply (n : Nat) (g : Fin 4) (l : Fin 128) :
    tileWord i arg1 harg1 arg2 harg2 arg3 harg3 arg4 harg4 arg7 x0 x1 x2 x3 n (ix2 (⟨2 * g.val, by omega⟩ : Fin 8) l)
      = word (groupAbs (pointNo i) x0 x1 x2 x3 ⟨128 * tp n + l.val, by have := tp_lt n; omega⟩
          ⟨4 * tq n + g.val, by have := tq_lt n; omega⟩) := by
  unfold tileWord
  rw [wordV_apply, groupMax_apply]
  unfold groupAbs
  congr 2
  funext k
  have hk := k.isLt
  rw [tileVregs_apply]
  have e : 128 * tq n + (8 * (4 * g.val + k.val / 8) + k.val % 8) = 32 * (4 * tq n + g.val) + k.val := by omega
  simp only [e]

/-- The codes of tile `n`. -/
theorem tileCodes_apply (n : Nat) (r c : Fin 128) :
    (codes (tileVregs i arg1 harg1 arg2 harg2 arg3 harg3 arg4 harg4 arg7 x0 x1 x2 x3 n)
        (fun g => rowLoad i arg1 harg1 arg2 harg2 arg3 harg3 arg4 harg4 arg7 arg8 x0 x1 x2 x3 n g.val g.isLt) (ix3 0 r c) : EReal)
      = codeAt (pointNo i) x0 x1 x2 x3 ⟨128 * tp n + r.val, by have := tp_lt n; omega⟩
          ⟨128 * tq n + c.val, by have := tq_lt n; omega⟩ := by
  have hc := c.isLt
  rw [codes_apply, tileVregs_apply, rowLoad_apply]
  rw [tileWord_apply i arg1 harg1 arg2 harg2 arg3 harg3 arg4 harg4 arg7 x0 x1 x2 x3 n ⟨c.val / 32, by omega⟩ r]
  rw [inv_eq (groupAbs_nonneg _ _ _ _ _ _ _)]
  unfold codeAt
  have e : 128 * tq n + (8 * (c.val / 8) + c.val % 8) = 128 * tq n + c.val := by omega
  have e' : (128 * tq n + c.val) / 32 = 4 * tq n + c.val / 32 := by omega
  simp only [e, e']

/-- Row `8 q + s` and lane `l` of row block `p` of the exponents' buffer: row `s` of tile `2 q + p`. -/
def expoValue (j : S2x128x128.Idx) : BitVec 32 :=
  storedV (tileWord i arg1 harg1 arg2 harg2 arg3 harg3 arg4 harg4 arg7 x0 x1 x2 x3 (2 * ((j 1).val / 8) + (j 0).val))
    (ix3 0 (⟨(j 1).val % 8, Nat.mod_lt _ (by decide)⟩ : Fin 8) (⟨(j 2).val, (j 2).isLt⟩ : Fin 128))

/-- The exponents' pieces are those of the tiles. -/
theorem mem_expoPieces (p : View.Piece (Elt Ideal) S2x128x128 .i32) : ∀ n : Nat,
    p ∈ expoPieces i arg1 harg1 arg2 harg2 arg3 harg3 arg4 harg4 arg7 x0 x1 x2 x3 n
      ↔ ∃ k, k < n ∧ p = ⟨Rect.unit (s := S2x128x128) ![tp k, 8 * tq k, 0] S1x8x128.size (inb_expo k),
          storedV (tileWord i arg1 harg1 arg2 harg2 arg3 harg3 arg4 harg4 arg7 x0 x1 x2 x3 k)⟩
  | 0 => by simp [expoPieces]
  | n + 1 => by
    rw [expoPieces, List.mem_cons, mem_expoPieces p n]
    constructor
    · rintro (h | ⟨k, hk, h⟩)
      · exact ⟨n, by omega, h⟩
      · exact ⟨k, by omega, h⟩
    · rintro ⟨k, hk, h⟩
      rcases Nat.lt_succ_iff_lt_or_eq.1 hk with hk | rfl
      · exact Or.inr ⟨k, hk, h⟩
      · exact Or.inl h

/-- The codes' pieces are those of the tiles. -/
theorem mem_codePieces (p : View.Piece (Elt Ideal) S1x256x2048 .fp8e4m3) : ∀ n : Nat,
    p ∈ codePieces i arg1 harg1 arg2 harg2 arg3 harg3 arg4 harg4 arg7 arg8 x0 x1 x2 x3 n
      ↔ ∃ k, k < n ∧ p = ⟨Rect.unit (s := S1x256x2048) ![0, 128 * tp k, 128 * tq k] S1x128x128.size (inb_code k),
          codes (tileVregs i arg1 harg1 arg2 harg2 arg3 harg3 arg4 harg4 arg7 x0 x1 x2 x3 k)
            (fun g => rowLoad i arg1 harg1 arg2 harg2 arg3 harg3 arg4 harg4 arg7 arg8 x0 x1 x2 x3 k g.val g.isLt)⟩
  | 0 => by simp [codePieces]
  | n + 1 => by
    rw [codePieces, List.mem_cons, mem_codePieces p n]
    constructor
    · rintro (h | ⟨k, hk, h⟩)
      · exact ⟨n, by omega, h⟩
      · exact ⟨k, by omega, h⟩
    · rintro ⟨k, hk, h⟩
      rcases Nat.lt_succ_iff_lt_or_eq.1 hk with hk | rfl
      · exact Or.inr ⟨k, hk, h⟩
      · exact Or.inl h

/-- A tile writes its part of the exponents' buffer. -/
theorem storedV_value (k : Nat) (hk : k < 32) (z : S1x8x128.Idx) :
    storedV (tileWord i arg1 harg1 arg2 harg2 arg3 harg3 arg4 harg4 arg7 x0 x1 x2 x3 k) z
      = expoValue i arg1 harg1 arg2 harg2 arg3 harg3 arg4 harg4 arg7 x0 x1 x2 x3
          ((Rect.unit (s := S2x128x128) ![tp k, 8 * tq k, 0] S1x8x128.size (inb_expo k)).emb z) := by
  obtain ⟨s, l, rfl⟩ : ∃ (s : Fin 8) (l : Fin 128), z = ix3 0 s l := ⟨z 1, z 2, by idx_ext⟩
  unfold expoValue
  have hs := s.isLt
  have h0 : (((Rect.unit (s := S2x128x128) ![tp k, 8 * tq k, 0] S1x8x128.size (inb_expo k)).emb (ix3 0 s l)) 0).val = tp k + 1 * 0 := rfl
  have h1 : (((Rect.unit (s := S2x128x128) ![tp k, 8 * tq k, 0] S1x8x128.size (inb_expo k)).emb (ix3 0 s l)) 1).val = 8 * tq k + 1 * s.val := rfl
  have h2 : (((Rect.unit (s := S2x128x128) ![tp k, 8 * tq k, 0] S1x8x128.size (inb_expo k)).emb (ix3 0 s l)) 2).val = 0 + 1 * l.val := rfl
  simp only [h0, h1, h2]
  have e : 2 * ((8 * tq k + 1 * s.val) / 8) + (tp k + 1 * 0) = k := by
    simp only [tq, tp]
    omega
  have e1 : (8 * tq k + 1 * s.val) % 8 = s.val := by omega
  have e2 : 0 + 1 * l.val = l.val := by omega
  simp only [e, e1, e2]

/-- Dropping the leading unit axis keeps row and lane. -/
theorem reshape_rows (h : Shape.numel ⟨2, ![64, 128]⟩ = Shape.numel ⟨3, ![1, 64, 128]⟩) (r : Fin 64) (l : Fin 128) :
    Shape.reshapeEquiv h (ix2 r l) = ix3 0 r l := by
  pointwise []

/-- The exponents of row block `p`, read back: row `4 q + g` holds those of group `4 q + g`. -/
theorem expoLoad_apply (p : Nat) (hp : p < 2) (r : Fin 64) (l : Fin 128) :
    expoLoad i arg1 harg1 arg2 harg2 arg3 harg3 arg4 harg4 arg7 arg9 x0 x1 x2 x3 p hp (ix2 r l)
      = expoAt (pointNo i) x0 x1 x2 x3 ⟨128 * p + l.val, by omega⟩ r := by
  have hr := r.isLt
  unfold expoLoad
  rw [View.readCov_eq_canon']
  refine (congrArg (View.canon (Val := Elt Ideal) _) (a₂ := (ix3 (⟨p, hp⟩ : Fin 2) (⟨2 * r.val, by omega⟩ : Fin 128) l : S2x128x128.Idx)) ?_).trans ?_
  · refine (congrArg (LoadRect.idx _) (reshape_rows _ r l)).trans ?_
    funext a
    apply Fin.ext
    fin_cases a
    · show p + 0 + 1 * 0 = p
      omega
    · show 0 + 0 + 2 * r.val = 2 * r.val
      omega
    · show 0 + 0 + 1 * l.val = l.val
      omega
  refine (View.canon_apply_of_pieces (Val := Elt Ideal) (expoValue i arg1 harg1 arg2 harg2 arg3 harg3 arg4 harg4 arg7 x0 x1 x2 x3) _ ?_ _ ?_).trans ?_
  · intro q hq x
    obtain ⟨k, hk, rfl⟩ := (mem_expoPieces i arg1 harg1 arg2 harg2 arg3 harg3 arg4 harg4 arg7 x0 x1 x2 x3 q 32).1 hq
    exact storedV_value i arg1 harg1 arg2 harg2 arg3 harg3 arg4 harg4 arg7 x0 x1 x2 x3 k hk x
  · refine ⟨_, (mem_expoPieces i arg1 harg1 arg2 harg2 arg3 harg3 arg4 harg4 arg7 x0 x1 x2 x3 _ 32).2 ⟨2 * (r.val / 4) + p, by omega, rfl⟩, ?_⟩
    refine (Rect.mem_set_unit (inb := inb_expo (2 * (r.val / 4) + p))).2 fun a => ?_
    fin_cases a
    · show (2 * (r.val / 4) + p) % 2 ≤ p ∧ p < (2 * (r.val / 4) + p) % 2 + 1
      omega
    · show 8 * ((2 * (r.val / 4) + p) / 2 % 16) ≤ 2 * r.val ∧ 2 * r.val < 8 * ((2 * (r.val / 4) + p) / 2 % 16) + 8
      omega
    · show 0 ≤ l.val ∧ l.val < 0 + 128
      omega
  · show storedV (tileWord i arg1 harg1 arg2 harg2 arg3 harg3 arg4 harg4 arg7 x0 x1 x2 x3 (2 * (2 * r.val / 8) + p))
      (ix3 0 (⟨2 * r.val % 8, _⟩ : Fin 8) l) = _
    have e : 2 * r.val % 8 = 2 * (r.val % 4) := by omega
    simp only [e]
    rw [storedV_apply]
    rw [tileWord_apply i arg1 harg1 arg2 harg2 arg3 harg3 arg4 harg4 arg7 x0 x1 x2 x3 _ ⟨r.val % 4, by omega⟩ l]
    rw [stored_eq (groupAbs_nonneg _ _ _ _ _ _ _)]
    unfold expoAt
    have e1 : tp (2 * (2 * r.val / 8) + p) = p := by simp only [tp]; omega
    have e2 : 4 * tq (2 * (2 * r.val / 8) + p) + r.val % 4 = r.val := by simp only [tq]; omega
    simp only [e1, e2]

/-- A tile writes its part of the codes. -/
theorem codes_value (k : Nat) (z : S1x128x128.Idx) :
    (codes (tileVregs i arg1 harg1 arg2 harg2 arg3 harg3 arg4 harg4 arg7 x0 x1 x2 x3 k)
        (fun g => rowLoad i arg1 harg1 arg2 harg2 arg3 harg3 arg4 harg4 arg7 arg8 x0 x1 x2 x3 k g.val g.isLt) z : EReal)
      = (fun j : S1x256x2048.Idx => codeAt (pointNo i) x0 x1 x2 x3 (j 1) (j 2))
          ((Rect.unit (s := S1x256x2048) ![0, 128 * tp k, 128 * tq k] S1x128x128.size (inb_code k)).emb z) := by
  obtain ⟨r, c, rfl⟩ : ∃ (r : Fin 128) (c : Fin 128), z = ix3 0 r c := ⟨z 1, z 2, by idx_ext⟩
  rw [tileCodes_apply]
  beta_reduce
  congr 1
  · exact Fin.ext (by show 128 * tp k + r.val = 128 * tp k + 1 * r.val; omega)
  · exact Fin.ext (by show 128 * tq k + c.val = 128 * tq k + 1 * c.val; omega)

end

section

variable (c : Dev nD) (i : grid0.Coords) (arg1 : Memref sig .tc .smem S2x16x96 .f32) (harg1 : arg1.IsWhole)
  (arg2 : Memref sig .tc .vmem S1x256x2048 .fp8e4m3) (harg2 : arg2.IsWhole)
  (arg3 : Memref sig .tc .vmem S1x32x2048 .bf16) (harg3 : arg3.IsWhole)
  (arg4 : Memref sig .tc .vmem S1x32x256 .bf16) (harg4 : arg4.IsWhole)
  (arg5 : Memref sig .tc .vmem S1x256x2048 .fp8e4m3) (harg5 : arg5.IsWhole)
  (arg6 : Memref sig .tc .vmem S1x64x256 .i8) (harg6 : arg6.IsWhole)
  (arg7 : Memref sig .tc .vmem S128x512 .bf16) (harg7 : arg7.IsWhole)
  (arg8 : Memref sig .tc .vmem S32x8x128 .f32) (harg8 : arg8.IsWhole)
  (arg9 : Memref sig .tc .vmem S2x128x128 .i32) (harg9 : arg9.IsWhole)
  (x0 : Vec Ideal S2x16x96 .f32) (x1 : Vec Ideal S1x256x2048 .fp8e4m3) (x2 : Vec Ideal S1x32x2048 .bf16) (x3 : Vec Ideal S1x32x256 .bf16)

/-- The block of codes a point leaves. -/
theorem codes_block (r : Fin 256) (k : Fin 2048) :
    (out0_A_4 c i arg1 harg1 arg2 harg2 arg3 harg3 arg4 harg4 arg5 harg5 arg6 harg6 arg7 harg7 arg8 harg8 arg9 harg9 x0 x1 x2 x3 (ix3 0 r k) : EReal)
      = codeAt (pointNo i) x0 x1 x2 x3 r k := by
  unfold out0_A_4
  refine View.read_writes_apply_of_pieces (Val := Elt Ideal) _ _ (fun j : S1x256x2048.Idx => codeAt (pointNo i) x0 x1 x2 x3 (j 1) (j 2)) _ ?_ _
    (cover0_A_4 c i arg1 harg1 arg2 harg2 arg3 harg3 arg4 harg4 arg5 harg5 arg6 harg6 arg7 harg7 arg8 harg8 arg9 harg9 x0 x1 x2 x3 _)
  rw [codes_found]
  intro p hp x
  obtain ⟨k, hk, rfl⟩ := (mem_codePieces i arg1 harg1 arg2 harg2 arg3 harg3 arg4 harg4 arg7 arg8 x0 x1 x2 x3 p 32).1 hp
  exact codes_value i arg1 harg1 arg2 harg2 arg3 harg3 arg4 harg4 arg7 arg8 x0 x1 x2 x3 k x

omit c i arg1 harg1 arg2 harg2 arg3 harg3 arg4 harg4 arg5 harg5 arg6 harg6 arg7 harg7 arg8 harg8 arg9 harg9 x0 x1 x2 x3 in
/-- The exponents are kept in 8 bits. -/
theorem narrow_apply (v : Vec Ideal S64x128 .i32) (g : Fin 64) (l : Fin 128) :
    k0_pay1 (F := Ideal) v (ix3 0 g l) = (v (ix2 g l) : BitVec 32).setWidth 8 := by
  pointwise [k0_pay1, trunci]

/-- The block of exponents a point leaves. -/
theorem exps_block (g : Fin 64) (r : Fin 256) :
    out0_A_5 c i arg1 harg1 arg2 harg2 arg3 harg3 arg4 harg4 arg5 harg5 arg6 harg6 arg7 harg7 arg8 harg8 arg9 harg9 x0 x1 x2 x3 (ix3 0 g r)
      = (expoAt (pointNo i) x0 x1 x2 x3 r g).setWidth 8 := by
  unfold out0_A_5
  refine View.read_writes_apply_of_pieces (Val := Elt Ideal) _ _
    (fun j : S1x64x256.Idx => (expoAt (pointNo i) x0 x1 x2 x3 (j 2) (j 1)).setWidth 8) _ ?_ _
    (cover0_A_5 c i arg1 harg1 arg2 harg2 arg3 harg3 arg4 harg4 arg5 harg5 arg6 harg6 arg7 harg7 arg8 harg8 arg9 harg9 x0 x1 x2 x3 _)
  rw [exps_found]
  intro p hp x
  rcases List.mem_cons.1 hp with rfl | hp
  · obtain ⟨g, l, rfl⟩ : ∃ (g : Fin 64) (l : Fin 128), x = ix3 0 g l := ⟨x 1, x 2, by idx_ext⟩
    refine (narrow_apply _ g l).trans (congrArg _ ((expoLoad_apply i arg1 harg1 arg2 harg2 arg3 harg3 arg4 harg4 arg7 arg9 x0 x1 x2 x3 1 _ g l).trans ?_))
    congr 1
    · exact Fin.ext (by show 128 * 1 + l.val = 128 * 1 + 1 * l.val; omega)
    · exact Fin.ext (by show g.val = 0 + 1 * g.val; omega)
  · obtain rfl := List.mem_singleton.1 hp
    obtain ⟨g, l, rfl⟩ : ∃ (g : Fin 64) (l : Fin 128), x = ix3 0 g l := ⟨x 1, x 2, by idx_ext⟩
    refine (narrow_apply _ g l).trans (congrArg _ ((expoLoad_apply i arg1 harg1 arg2 harg2 arg3 harg3 arg4 harg4 arg7 arg9 x0 x1 x2 x3 0 _ g l).trans ?_))
    congr 1
    · exact Fin.ext (by show 128 * 0 + l.val = 128 * 0 + 1 * l.val; omega)
    · exact Fin.ext (by show g.val = 0 + 1 * g.val; omega)

end

end Cert.Mine

end
-- ==== Proof.KValue.lean ====
/- The kernel's run: what its two results hold after it, index by index, as functions of the four arguments. -/
module

public import proofs.«01_k».proof.Proof.Block
public import proofs.«01_k».proof.Proof.Closed
public import Idealize.ShloMosaic.Lib.Pipeline.ValueKit
public import Idealize.ShloMosaic.Lib.Claim

@[expose] public section

noncomputable section

namespace Cert.Mine

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (ρ : Dev nD → PrngReg)

/-- Where the windows' blocks lie: point `t` takes number `t` along the first axis, and the scales whole. -/
theorem block_index : ∀ t : Fin cfg0.N,
    win0_0.index t = ![0, 0, 0] ∧ win0_1.index t = ![t.val, 0, 0] ∧ win0_2.index t = ![t.val, 0, 0] ∧ win0_3.index t = ![t.val, 0, 0]
      ∧ win0_4.index t = ![t.val, 0, 0] ∧ win0_5.index t = ![t.val, 0, 0] ∧ (grid0.coords t 0).val = t.val :=
  (by decide +kernel : ∀ t : Fin grid0.N, _)

/-- The scales reach the region transposed. -/
theorem entry_scales (c : Dev nD) (p : Fin 2) (q : Fin 16) (b : Fin 96) :
    V m c main_v0 (ix3 p q b) = m ((c : Thread nD τ).loc main_arg1) (ix3 b p q) := by
  have h : V m c main_v0 = transpose S2x16x96 [1, 2, 0] (m ((c : Thread nD τ).loc main_arg1)) transposes_S96x2x16_S2x16x96_1_2_0 := by
    simp only [V, V0, hostOps0, List.flatten_cons, List.flatten_nil, List.append_nil]
    after_results
  rw [h]
  pointwise []

/-- The second low-rank factor reaches the region transposed. -/
theorem entry_factor (c : Dev nD) (b : Fin 96) (k : Fin 32) (r : Fin 256) :
    V m c main_v1 (ix3 b k r) = m ((c : Thread nD τ).loc main_arg3) (ix3 b r k) := by
  have h : V m c main_v1 = transpose S96x32x256 [0, 2, 1] (m ((c : Thread nD τ).loc main_arg3)) transposes_S96x256x32_S96x32x256_0_2_1 := by
    simp only [V, V0, hostOps0, List.flatten_cons, List.flatten_nil, List.append_nil]
    after_results
  rw [h]
  pointwise []

/-- The merged element of point `t` is that of the arguments. -/
theorem merged_block (c : Dev nD) (t : Fin 96) (r : Fin 256) (k : Fin 2048) :
    merged (pointNo (grid0.coords t)) (iblk m c 0 t) (iblk m c 1 t) (iblk m c 2 t) (iblk m c 3 t) r k
      = mergedOf (m ((c : Thread nD τ).loc main_arg0)) (m ((c : Thread nD τ).loc main_arg1)) (m ((c : Thread nD τ).loc main_arg2))
          (m ((c : Thread nD τ).loc main_arg3)) t r k := by
  obtain ⟨e0, e1, e2, e3, -, -, e⟩ := block_index t
  have h0 : ∀ (p : Fin 2) (q : Fin 16) (b : Fin 96), iblk m c 0 t (ix3 p q b) = m ((c : Thread nD τ).loc main_arg1) (ix3 b p q) := fun p q b => by
    refine Eq.trans ?_ (entry_scales m c p q b)
    blk_ext [iblk, e0]
  have h1 : ∀ (r : Fin 256) (k : Fin 2048), iblk m c 1 t (ix3 0 r k) = m ((c : Thread nD τ).loc main_arg0) (ix3 t r k) := fun r k => by
    rw [← V_main_arg0 m c]
    blk_ext [iblk, e1]
  have h2 : ∀ (r : Fin 32) (k : Fin 2048), iblk m c 2 t (ix3 0 r k) = m ((c : Thread nD τ).loc main_arg2) (ix3 t r k) := fun r k => by
    rw [← V_main_arg2 m c]
    blk_ext [iblk, e2]
  have h3 : ∀ (k : Fin 32) (r : Fin 256), iblk m c 3 t (ix3 0 k r) = m ((c : Thread nD τ).loc main_arg3) (ix3 t r k) := fun k r => by
    refine Eq.trans ?_ (entry_factor m c t k r)
    blk_ext [iblk, e3]
  have hp : pointNo (grid0.coords t) = t := Fin.ext e
  unfold merged mergedOf
  simp only [h0, h1, h2, h3, hp]

/-- The codes of point `t`. -/
theorem codes_point (c : Dev nD) (t : Fin 96) (r : Fin 256) (k : Fin 2048) :
    ((outsAt0 m c t).1 (ix3 0 r k) : EReal)
      = codeOf (m ((c : Thread nD τ).loc main_arg0)) (m ((c : Thread nD τ).loc main_arg1)) (m ((c : Thread nD τ).loc main_arg2))
          (m ((c : Thread nD τ).loc main_arg3)) t r k := by
  have h := codes_block c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (Memref.isWhole_whole _) scM0_1 (Memref.isWhole_whole _) scM0_2 (Memref.isWhole_whole _)
    (iblk m c 0 t) (iblk m c 1 t) (iblk m c 2 t) (iblk m c 3 t) r k
  unfold codeAt groupAbs at h
  simp only [merged_block] at h
  unfold codeOf groupOf
  rw [← h]
  simp only [outsAt0]

/-- The exponents of point `t`. -/
theorem exps_point (c : Dev nD) (t : Fin 96) (g : Fin 64) (r : Fin 256) :
    (outsAt0 m c t).2 (ix3 0 g r)
      = (expoOf (m ((c : Thread nD τ).loc main_arg0)) (m ((c : Thread nD τ).loc main_arg1)) (m ((c : Thread nD τ).loc main_arg2))
          (m ((c : Thread nD τ).loc main_arg3)) t r g).setWidth 8 := by
  have h := exps_block c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (Memref.isWhole_whole _) scM0_1 (Memref.isWhole_whole _) scM0_2 (Memref.isWhole_whole _)
    (iblk m c 0 t) (iblk m c 1 t) (iblk m c 2 t) (iblk m c 3 t) g r
  unfold expoAt groupAbs at h
  simp only [merged_block] at h
  unfold expoOf groupOf
  rw [← h]
  simp only [outsAt0]

/-- The array of codes after the run. -/
theorem codes_array (c : Dev nD) :
    (dats m 0 c).arrAt 4 cfg0.N = fun j : S96x256x2048.Idx => (codeOf (m ((c : Thread nD τ).loc main_arg0)) (m ((c : Thread nD τ).loc main_arg1))
      (m ((c : Thread nD τ).loc main_arg2)) (m ((c : Thread nD τ).loc main_arg3)) (j 0) (j 1) (j 2) : EReal) := by
  refine (dats m 0 c).arrAt_eq_of_covers 4 _ (by decide +kernel) fun t hf y => ?_
  obtain ⟨-, -, -, -, e4, -, -⟩ := block_index t
  obtain ⟨r, k, rfl⟩ : ∃ (r : Fin 256) (k : Fin 2048), y = ix3 0 r k := ⟨y 1, y 2, by idx_ext⟩
  have he : ((cfg0.win 4).blk t).view.emb (ix3 0 r k) = (ix3 t r k : S96x256x2048.Idx) := by
    blk_ext [e4]
  rw [he]
  blk_simp
  rw [after0_4]
  exact codes_point m c t r k

/-- The array of exponents after the region. -/
theorem exps_array (c : Dev nD) :
    (dats m 0 c).arrAt 5 cfg0.N = fun j : S96x64x256.Idx => (expoOf (m ((c : Thread nD τ).loc main_arg0)) (m ((c : Thread nD τ).loc main_arg1))
      (m ((c : Thread nD τ).loc main_arg2)) (m ((c : Thread nD τ).loc main_arg3)) (j 0) (j 2) (j 1)).setWidth 8 := by
  refine (dats m 0 c).arrAt_eq_of_covers 5 _ (by decide +kernel) fun t hf y => ?_
  obtain ⟨-, -, -, -, -, e5, -⟩ := block_index t
  obtain ⟨g, r, rfl⟩ : ∃ (g : Fin 64) (r : Fin 256), y = ix3 0 g r := ⟨y 1, y 2, by idx_ext⟩
  have he : ((cfg0.win 5).blk t).view.emb (ix3 0 g r) = (ix3 t g r : S96x64x256.Idx) := by
    blk_ext [e5]
  rw [he]
  blk_simp
  rw [after0_5]
  exact exps_point m c t g r

/-- The host lines after the region leave the second result as the exponents' array, transposed. -/
theorem exps_result (c : Dev nD) :
    Pipeline.afterTail₀ cfgs (dats m) 0 (V0 m) [hostOps1] c main_v3
      = fun j : S96x256x64.Idx => (expoOf (m ((c : Thread nD τ).loc main_arg0)) (m ((c : Thread nD τ).loc main_arg1))
          (m ((c : Thread nD τ).loc main_arg2)) (m ((c : Thread nD τ).loc main_arg3)) (j 0) (j 1) (j 2)).setWidth 8 := by
  have h : Pipeline.afterTail₀ cfgs (dats m) 0 (V0 m) [hostOps1] c main_v3
      = transpose S96x256x64 [0, 2, 1] ((dats m 0 c).arrAt 5 cfg0.N) transposes_S96x64x256_S96x256x64_0_2_1 := by
    unfold Pipeline.afterTail₀
    simp only [hostOps1, List.flatten_cons, List.flatten_nil, List.append_nil]
    after_results
    exact congrArg (transpose S96x256x64 [0, 2, 1] · transposes_S96x64x256_S96x256x64_0_2_1)
      (Pipeline.withArrays_arr (cfgs 0).spec (by exact (by decide : Function.Injective (Pipeline.arrRef spec0))) c (V0 m c) (fun w => (dats m 0 c).arrAt w cfg0.N) 5)
  rw [h, exps_array]
  funext j
  obtain ⟨b, r, g, rfl⟩ : ∃ (b : Fin 96) (r : Fin 256) (g : Fin 64), j = ix3 b r g := ⟨j 0, j 1, j 2, by idx_ext⟩
  pointwise []

/-- The kernel's run: the two results in closed form, the arguments as they were. -/
theorem kernel_run : θ_run defs (onTc (τ := τ) (main (F := Ideal))) ⟨m, fun _ => 0, ρ⟩ fun r => ∀ c : Dev nD,
      r.2.mem ((c : Thread nD τ).loc main_v2_0)
        = (fun j : S96x256x2048.Idx => (codeOf (m ((c : Thread nD τ).loc main_arg0)) (m ((c : Thread nD τ).loc main_arg1))
            (m ((c : Thread nD τ).loc main_arg2)) (m ((c : Thread nD τ).loc main_arg3)) (j 0) (j 1) (j 2) : EReal))
      ∧ r.2.mem ((c : Thread nD τ).loc main_v3)
        = (fun j : S96x256x64.Idx => (expoOf (m ((c : Thread nD τ).loc main_arg0)) (m ((c : Thread nD τ).loc main_arg1))
            (m ((c : Thread nD τ).loc main_arg2)) (m ((c : Thread nD τ).loc main_arg3)) (j 0) (j 1) (j 2)).setWidth 8)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨((h c).1 4).trans (codes_array m c),
        ((h c).2 main_v3 (Pipeline.mem_restRefs_of main_v3 (by decide) (by decide))).trans (exps_result m c),
        ((h c).1 1).trans (((dats m 0 c).arrAt_in 1 rfl _).trans ((A_eq m c 1).trans (V_main_arg0 m c))),
        ((h c).2 main_arg1 (Pipeline.mem_restRefs_of main_arg1 (by decide) (by decide))).trans (W_main_arg1 m (dats m) c),
        ((h c).1 2).trans (((dats m 0 c).arrAt_in 2 rfl _).trans ((A_eq m c 2).trans (V_main_arg2 m c))),
        ((h c).2 main_arg3 (Pipeline.mem_restRefs_of main_arg3 (by decide) (by decide))).trans (W_main_arg3 m (dats m) c)⟩)
    (run_main m ρ)

end Cert.Mine

end
-- ==== Proof.RefValue.lean ====
/- The reference's two results, index by index: the closed forms. -/
module

public import proofs.«01_k».proof.Proof.Closed
public import proofs.«01_k».proof.Proof.Gen.ReferenceIdeal.Skeleton
public import Idealize.ShloMosaic.Lib.IndicatorCount

@[expose] public section

noncomputable section

namespace Cert.Mine.Ref

open Idealize.ShloMosaic Idealize.ShloMosaic.Tactic Idealize.SL.Sem
open Cert.ReferenceIdeal Cert.ReferenceIdeal.Gen

variable (a0 : Vec Ideal S96x256x2048 .fp8e4m3) (a1 : Vec Ideal S96x2x16 .f32) (a2 : Vec Ideal S96x32x2048 .bf16)
  (a3 : Vec Ideal S96x256x32 .bf16)

/-- The reference's merged weight, its columns in groups of 32. -/
theorem ref_merged (b : Fin 96) (r : Fin 256) (g : Fin 64) (k : Fin 32) :
    (k0_pay4 a0 a1 a3 a2 (ix4 b r g k) : EReal) = mergedOf a0 a1 a2 a3 b r ⟨32 * g.val + k.val, by omega⟩ := by
  pointwise [k0_pay4]
  have e : (32 * g.val + k.val) / 128 * 128 + (32 * g.val + k.val) % 128 = 32 * g.val + k.val := by omega
  have e' : g.val * 32 + k.val = 32 * g.val + k.val := by omega
  unfold mergedOf
  simp only [e']
  simp only [e]

/-- The greatest absolute values of the groups. -/
def greatest : FVec Ideal S96x256x64 .f32 :=
  multiReduction .maximumf [3] S96x256x64 (absf (k0_pay4 a0 a1 a3 a2)) 0xFF800000#32 reduces_S96x256x64x32_S96x256x64 (.inl rfl) rfl

/-- The word 0xFF800000 is minus infinity. -/
theorem ofBits_bot : Ideal.ofBits .f32 0xFF800000#32 = (⊥ : EReal) := by
  simp [Ideal.ofBits, Ideal.ieee]

/-- The reference's greatest absolute value of a group. -/
theorem ref_group (b : Fin 96) (r : Fin 256) (g : Fin 64) :
    (greatest a0 a1 a2 a3 (ix3 b r g) : EReal) = groupOf a0 a1 a2 a3 b r g := by
  have h := ref_merged a0 a1 a2 a3 b r g
  unfold greatest
  generalize k0_pay4 a0 a1 a3 a2 = v at h ⊢
  unfold groupOf
  simp only [← h]
  pointwise []
  rw [ofBits_bot]

/-- Which powers of two, from 2⁻¹²⁶ up, times 447.99997, a group's greatest absolute value reaches. -/
def reaches (v : FVec Ideal S96x256x64 .f32) : IVec S96x256x64x246 1 :=
  cmpf .oge
    (broadcastTo S96x256x64x246 (shapeCast S96x256x64x1 v shapeCasts_S96x256x64_S96x256x64x1) broadcasts_S96x256x64x1_S96x256x64x246)
    (mulf (broadcast S96x256x64x246 (Scalar.ofBits (F := Ideal) .f32 0x43DFFFFF#32))
      (exp2 (sitofp .f32 (subi (iota .tc S96x256x64x246 32 [3] iota_S96x256x64x246_d3_w32) (broadcast S96x256x64x246 126#32)))))

/-- How many of them it reaches. -/
def reached (v : FVec Ideal S96x256x64 .f32) : IVec S96x256x64 32 :=
  multiReductionI .add [3] S96x256x64 (extui 32 (reaches v) natLt_1_32) 0#32 reduces_S96x256x64x246_S96x256x64 rfl

/-- The exponent from that number: 126 less, or 0 out of the range of exponents. -/
def ranged (v : FVec Ideal S96x256x64 .f32) (n : IVec S96x256x64 32) : IVec S96x256x64 32 :=
  select
    (ori (cmpi .slt (subi n (broadcast S96x256x64 126#32)) (broadcast S96x256x64 4294967171#32))
      (cmpf .oge (mulf v (broadcast S96x256x64 (Scalar.ofBits (F := Ideal) .f32 0x3F000000#32)))
        (broadcast S96x256x64 (Scalar.ofBits (F := Ideal) .f32 0x7F000000#32))))
    (broadcast S96x256x64 0#32) (subi n (broadcast S96x256x64 126#32))

/-- The reference's exponents, before the bias. -/
def exponents : IVec S96x256x64 32 := k0_pay1 (k0_pay6 a0 a1 a3 a2) (k0_pay7 a0 a1 a3 a2)

/-- The reference's exponents are those steps. -/
theorem exponents_steps :
    exponents a0 a1 a2 a3 = ranged (greatest a0 a1 a2 a3) (reached (greatest a0 a1 a2 a3)) :=
  rfl

/-- The word 0x43DFFFFF is the greatest single-precision number below 448. -/
theorem ofBits_pred : Ideal.ofBits .f32 0x43DFFFFF#32 = ((pred448 : ℝ) : EReal) := by
  simp [Ideal.ofBits, Ideal.ieee]
  norm_num [pred448]
  rw [← EReal.coe_mul]
  norm_num

/-- Threshold `j` is 447.99997 times two to the power `j - 126`. -/
theorem threshold (j : Fin 246) :
    ((pred448 : ℝ) : EReal) * FloatOps.exp2 (F := Ideal) (φ := .f32) (FloatOps.sitofp (F := Ideal) .f32 (IntOp.subi (BitVec.ofNat 32 j.val) 126#32))
      = ((pred448 * (2 ^ j.val / 2 ^ 126) : ℝ) : EReal) := by
  have h : (IntOp.subi (BitVec.ofNat 32 j.val) 126#32).toInt = (j.val : ℤ) - 126 := sub126_toInt (by omega)
  show ((pred448 : ℝ) : EReal) * Ideal.exp2 ((((IntOp.subi (BitVec.ofNat 32 j.val) 126#32).toInt : ℤ) : ℝ) : EReal) = _
  rw [h]
  show ((pred448 : ℝ) : EReal) * ((Real.rpow 2 (((j.val : ℤ) - 126 : ℤ) : ℝ) : ℝ) : EReal) = _
  rw [show Real.rpow 2 (((j.val : ℤ) - 126 : ℤ) : ℝ) = (2 : ℝ) ^ j.val / 2 ^ 126 from
    (Real.rpow_intCast 2 _).trans (by rw [zpow_sub₀ (by norm_num), zpow_natCast]; norm_cast), ← EReal.coe_mul]

/-- Whether a group's greatest absolute value reaches threshold `j`. -/
theorem reaches_apply (v : FVec Ideal S96x256x64 .f32) (b : Fin 96) (r : Fin 256) (g : Fin 64) (j : Fin 246) :
    reaches v (ix4 b r g j) = 1#1 ↔ ((pred448 * (2 ^ j.val / 2 ^ 126) : ℝ) : EReal) ≤ v (ix3 b r g) := by
  pointwise [reaches]
  rw [ofBits_pred, threshold]
  by_cases hx : ((pred448 * (2 ^ j.val / 2 ^ 126) : ℝ) : EReal) ≤ v (ix3 b r g) <;> simp only [hx] <;> decide

/-- The number of thresholds reached. -/
theorem reached_apply (v : FVec Ideal S96x256x64 .f32) (b : Fin 96) (r : Fin 256) (g : Fin 64) :
    reached v (ix3 b r g) = BitVec.ofNat 32 (count (v (ix3 b r g))) := by
  have h := reaches_apply v b r g
  unfold reached
  generalize reaches v = p at h ⊢
  have e : multiReductionI .add [3] S96x256x64 (extui 32 p natLt_1_32) 0#32 reduces_S96x256x64x246_S96x256x64 rfl (ix3 b r g)
      = Finset.univ.fold IntOp.addi (0#32) fun j : Fin 246 => (p (ix4 b r g j)).setWidth 32 := by
    pointwise []
  rw [e, IndicatorCount.fold_addi_setWidth_eq_card]
  unfold count
  simp only [h]

/-- The exponent from the number of thresholds reached, at one group. -/
theorem ranged_apply (v : FVec Ideal S96x256x64 .f32) (n : IVec S96x256x64 32) (x : EReal) (b : Fin 96) (r : Fin 256) (g : Fin 64)
    (hv : v (ix3 b r g) = x) (hn : n (ix3 b r g) = BitVec.ofNat 32 (count x)) : ranged v n (ix3 b r g) = expo x := by
  have h1 : Ideal.ofBits .f32 0x7F000000#32 = ((2 ^ 127 : ℝ) : EReal) := by
    rw [ofBits_field (f := 254) (by decide) (by decide) (by decide)]
    norm_num
  have h2 : Ideal.ofBits .f32 0x3F000000#32 = ((2⁻¹ : ℝ) : EReal) := by
    rw [ofBits_field (f := 126) (by decide) (by decide) (by decide)]
    norm_num
  pointwise [ranged, hv, hn]
  rw [h1, h2]
  rfl

/-- The reference's exponent of a group, from the greatest absolute value. -/
theorem ref_expo (b : Fin 96) (r : Fin 256) (g : Fin 64) :
    exponents a0 a1 a2 a3 (ix3 b r g) = expo (groupOf a0 a1 a2 a3 b r g) :=
  (congrFun (exponents_steps a0 a1 a2 a3) _).trans
    (ranged_apply _ _ _ b r g (ref_group a0 a1 a2 a3 b r g)
      ((reached_apply _ b r g).trans (congrArg (fun x => BitVec.ofNat 32 (count x)) (ref_group a0 a1 a2 a3 b r g))))

/-- A code, from its merged weight and its group's exponent. -/
theorem code_apply (v : FVec Ideal S96x256x64x32 .f32) (n : IVec S96x256x64 32) (f : IVec S96x256x64 1) (b : Fin 96) (r : Fin 256)
    (c : Fin 2048) : (k0_pay2 v n f (ix3 b r c) : EReal)
      = clip (v (ix4 b r ⟨c.val / 32, by omega⟩ ⟨c.val % 32, by omega⟩)
          * Ideal.exp2 (((IntOp.subi 0#32 (k0_pay1 n f (ix3 b r ⟨c.val / 32, by omega⟩))).toInt : ℝ) : EReal)) := by
  unfold k0_pay2
  generalize k0_pay1 n f = e
  pointwise []
  rfl

/-- The reference's code of an element. -/
theorem ref_codes (b : Fin 96) (r : Fin 256) (c : Fin 2048) :
    (k0_pay2 (k0_pay4 a0 a1 a3 a2) (k0_pay6 a0 a1 a3 a2) (k0_pay7 a0 a1 a3 a2) (ix3 b r c) : EReal) = codeOf a0 a1 a2 a3 b r c := by
  have h := ref_merged a0 a1 a2 a3 b r ⟨c.val / 32, by omega⟩ ⟨c.val % 32, by omega⟩
  have h' := ref_expo a0 a1 a2 a3 b r ⟨c.val / 32, by omega⟩
  unfold exponents at h'
  have e : 32 * (c.val / 32) + c.val % 32 = c.val := by omega
  simp only [e] at h
  rw [code_apply, h, h']
  rfl

/-- The reference's stored exponent of a group. -/
theorem ref_exps (b : Fin 96) (r : Fin 256) (g : Fin 64) :
    k0_pay3 (k0_pay6 a0 a1 a3 a2) (k0_pay7 a0 a1 a3 a2) (ix3 b r g) = (expoOf a0 a1 a2 a3 b r g).setWidth 8 := by
  have h' := ref_expo a0 a1 a2 a3 b r g
  unfold exponents at h'
  unfold k0_pay3
  generalize k0_pay1 (k0_pay6 a0 a1 a3 a2) (k0_pay7 a0 a1 a3 a2) = e at h' ⊢
  pointwise [trunci, h']
  rfl

end Cert.Mine.Ref

end
-- ==== Proof.RefRun.lean ====
/- The reference's run: what its two results hold after it, index by index, as functions of the four arguments. -/
module

public import proofs.«01_k».proof.Proof.RefValue
public import proofs.«01_k».proof.Proof.Gen.ReferenceIdeal.Frame
public import Idealize.ShloMosaic.Lib.Pipeline.ValueKit
public import Idealize.ShloMosaic.Lib.Claim

@[expose] public section

noncomputable section

namespace Cert.Mine.Ref

open Idealize.ShloMosaic Idealize.ShloMosaic.TcCoe Idealize.ShloMosaic.Tactic Idealize.SL.Sem
open Cert.ReferenceIdeal Cert.ReferenceIdeal.Gen

variable (m : (ℓ : Loc nD τ sig) → Buf (Elt Ideal) ℓ) (ρ : Dev nD → PrngReg)

/-- The one point's block is the whole array, in every window. -/
theorem block_index : ∀ t : Fin cfg0.N,
    win0_0.index t = ![0, 0, 0] ∧ win0_1.index t = ![0, 0, 0] ∧ win0_2.index t = ![0, 0, 0] ∧ win0_3.index t = ![0, 0, 0]
      ∧ win0_4.index t = ![0, 0, 0] ∧ win0_5.index t = ![0, 0, 0] :=
  (by decide +kernel : ∀ t : Fin grid0.N, _)

/-- The codes come in whole. -/
theorem block0 (c : Dev nD) (t : Fin cfg0.N) : iblk m c 0 t = m ((c : Thread nD τ).loc main_arg0) := by
  obtain ⟨e, -⟩ := block_index t
  rw [← V_main_arg0 m c]
  funext j
  blk_ext [iblk, e]

/-- The scales come in whole. -/
theorem block1 (c : Dev nD) (t : Fin cfg0.N) : iblk m c 1 t = m ((c : Thread nD τ).loc main_arg1) := by
  obtain ⟨-, e, -⟩ := block_index t
  rw [← V_main_arg1 m c]
  funext j
  blk_ext [iblk, e]

/-- The first low-rank factor comes in whole. -/
theorem block2 (c : Dev nD) (t : Fin cfg0.N) : iblk m c 2 t = m ((c : Thread nD τ).loc main_arg2) := by
  obtain ⟨-, -, e, -⟩ := block_index t
  rw [← V_main_arg2 m c]
  funext j
  blk_ext [iblk, e]

/-- The second low-rank factor comes in whole. -/
theorem block3 (c : Dev nD) (t : Fin cfg0.N) : iblk m c 3 t = m ((c : Thread nD τ).loc main_arg3) := by
  obtain ⟨-, -, -, e, -⟩ := block_index t
  rw [← V_main_arg3 m c]
  funext j
  blk_ext [iblk, e]

/-- Three zeros are the zero offset. -/
theorem zeros : (![0, 0, 0] : Fin 3 → Nat) = fun _ => 0 := funext fun a => by fin_cases a <;> rfl

/-- The exponents before the range test, from the arguments. -/
theorem inner_exponents (x0 : Vec Ideal S96x256x2048 .fp8e4m3) (x1 : Vec Ideal S96x2x16 .f32) (x2 : Vec Ideal S96x32x2048 .bf16)
    (x3 : Vec Ideal S96x256x32 .bf16) : k0_pay8 x0 x1 x2 x3 = k0_pay6 x0 x1 x3 x2 := by
  unfold k0_pay8
  rw [View.ld_unit_zero (S := S96x256x2048) zeros _ x0, View.ld_unit_zero (S := S96x2x16) zeros _ x1,
    View.ld_unit_zero (S := S96x256x32) zeros _ x3, View.ld_unit_zero (S := S96x32x2048) zeros _ x2]

/-- The range test, from the arguments. -/
theorem inner_range (x0 : Vec Ideal S96x256x2048 .fp8e4m3) (x1 : Vec Ideal S96x2x16 .f32) (x2 : Vec Ideal S96x32x2048 .bf16)
    (x3 : Vec Ideal S96x256x32 .bf16) : k0_pay9 x0 x1 x2 x3 = k0_pay7 x0 x1 x3 x2 := by
  unfold k0_pay9
  rw [View.ld_unit_zero (S := S96x256x2048) zeros _ x0, View.ld_unit_zero (S := S96x2x16) zeros _ x1,
    View.ld_unit_zero (S := S96x256x32) zeros _ x3, View.ld_unit_zero (S := S96x32x2048) zeros _ x2]

/-- The block of codes the one point leaves. -/
theorem codes_block (x0 : Vec Ideal S96x256x2048 .fp8e4m3) (x1 : Vec Ideal S96x2x16 .f32) (x2 : Vec Ideal S96x32x2048 .bf16)
    (x3 : Vec Ideal S96x256x32 .bf16) :
    out0_4 x0 x1 x2 x3 = k0_pay2 (k0_pay4 x0 x1 x3 x2) (k0_pay6 x0 x1 x3 x2) (k0_pay7 x0 x1 x3 x2) := by
  unfold out0_4
  rw [View.canon_unit_zero zeros, inner_exponents, inner_range, View.ld_unit_zero (S := S96x256x2048) zeros _ x0,
    View.ld_unit_zero (S := S96x2x16) zeros _ x1, View.ld_unit_zero (S := S96x256x32) zeros _ x3,
    View.ld_unit_zero (S := S96x32x2048) zeros _ x2]

/-- The block of exponents the one point leaves. -/
theorem exps_block (x0 : Vec Ideal S96x256x2048 .fp8e4m3) (x1 : Vec Ideal S96x2x16 .f32) (x2 : Vec Ideal S96x32x2048 .bf16)
    (x3 : Vec Ideal S96x256x32 .bf16) : out0_5 x0 x1 x2 x3 = k0_pay3 (k0_pay6 x0 x1 x3 x2) (k0_pay7 x0 x1 x3 x2) := by
  unfold out0_5
  rw [View.canon_unit_zero zeros, inner_exponents, inner_range]

/-- The array of codes after the run. -/
theorem codes_array (c : Dev nD) :
    (dats m 0 c).arrAt 4 cfg0.N = fun j : S96x256x2048.Idx => (codeOf (m ((c : Thread nD τ).loc main_arg0)) (m ((c : Thread nD τ).loc main_arg1))
      (m ((c : Thread nD τ).loc main_arg2)) (m ((c : Thread nD τ).loc main_arg3)) (j 0) (j 1) (j 2) : EReal) := by
  refine (dats m 0 c).arrAt_eq_of_covers 4 _ (by decide +kernel) fun t hf y => ?_
  obtain ⟨-, -, -, -, e4, -⟩ := block_index t
  obtain ⟨b, r, k, rfl⟩ : ∃ (b : Fin 96) (r : Fin 256) (k : Fin 2048), y = ix3 b r k := ⟨y 0, y 1, y 2, by idx_ext⟩
  have he : ((cfg0.win 4).blk t).view.emb (ix3 b r k) = (ix3 b r k : S96x256x2048.Idx) := by
    blk_ext [e4]
  rw [he]
  blk_simp
  rw [after0_4, block0, block1, block2, block3, codes_block]
  exact ref_codes _ _ _ _ b r k

/-- The array of exponents after the run. -/
theorem exps_array (c : Dev nD) :
    (dats m 0 c).arrAt 5 cfg0.N = fun j : S96x256x64.Idx => (expoOf (m ((c : Thread nD τ).loc main_arg0)) (m ((c : Thread nD τ).loc main_arg1))
      (m ((c : Thread nD τ).loc main_arg2)) (m ((c : Thread nD τ).loc main_arg3)) (j 0) (j 1) (j 2)).setWidth 8 := by
  refine (dats m 0 c).arrAt_eq_of_covers 5 _ (by decide +kernel) fun t hf y => ?_
  obtain ⟨-, -, -, -, -, e5⟩ := block_index t
  obtain ⟨b, r, g, rfl⟩ : ∃ (b : Fin 96) (r : Fin 256) (g : Fin 64), y = ix3 b r g := ⟨y 0, y 1, y 2, by idx_ext⟩
  have he : ((cfg0.win 5).blk t).view.emb (ix3 b r g) = (ix3 b r g : S96x256x64.Idx) := by
    blk_ext [e5]
  rw [he]
  blk_simp
  rw [after0_5, block0, block1, block2, block3, exps_block]
  exact ref_exps _ _ _ _ b r g

/-- The reference's run: the two results in closed form, the arguments as they were. -/
theorem reference_run : θ_run defs (onTc (τ := τ) (main (F := Ideal))) ⟨m, fun _ => 0, ρ⟩ fun r => ∀ c : Dev nD,
      r.2.mem ((c : Thread nD τ).loc main_v0_0)
        = (fun j : S96x256x2048.Idx => (codeOf (m ((c : Thread nD τ).loc main_arg0)) (m ((c : Thread nD τ).loc main_arg1))
            (m ((c : Thread nD τ).loc main_arg2)) (m ((c : Thread nD τ).loc main_arg3)) (j 0) (j 1) (j 2) : EReal))
      ∧ r.2.mem ((c : Thread nD τ).loc main_v0_1)
        = (fun j : S96x256x64.Idx => (expoOf (m ((c : Thread nD τ).loc main_arg0)) (m ((c : Thread nD τ).loc main_arg1))
            (m ((c : Thread nD τ).loc main_arg2)) (m ((c : Thread nD τ).loc main_arg3)) (j 0) (j 1) (j 2)).setWidth 8)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨((h c).1 4).trans (codes_array m c), ((h c).1 5).trans (exps_array m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c))),
        ((h c).1 3).trans (((dats m 0 c).arrAt_in 3 rfl _).trans ((A_eq m c 3).trans (V_main_arg3 m c)))⟩)
    (run_main m ρ)

end Cert.Mine.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KValue
public import proofs.«01_k».proof.Proof.RefRun
public import Idealize.ShloMosaic.Adequacy
public import Idealize.ShloMosaic.Init

@[expose] public section

noncomputable section

namespace Cert.Proof

open Idealize.ShloMosaic Idealize.ShloMosaic.TcCoe Idealize.SL.Sem

/-- From memories that agree on the four arguments the kernel and the reference end with the same codes and the same
stored exponents: both are the closed forms `codeOf` and `expoOf` of the arguments. -/
theorem equal_results [Cert.KernelIdeal.Facts] [Cert.ReferenceIdeal.Facts] : Cert.algebraic_KernelIdeal_ReferenceIdeal := by
  intro m g m' g' _ hargs
  refine ⟨_, _, Cert.Mine.kernel_run m g, ?_⟩
  refine (θ_run _ _ _).mono (fun r h c => ?_) (Cert.Mine.Ref.reference_run m' g')
  obtain ⟨h0, h1, h2, h3⟩ := hargs c
  obtain ⟨r0, r1, hf⟩ := h c
  refine ⟨?_, ?_, hf⟩
  · rw [r0, h0, h1, h2, h3]
  · rw [r1, h0, h1, h2, h3]

/-- All five claims. -/
theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, fun m ρ _ => Cert.ReferenceIdeal.Gen.frame m ρ, trivial,
    equal_results⟩

end Cert.Proof

end
